-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_AttentionIdeal [hPre_finite_AttentionIdeal : Cert.Pre_finite_AttentionIdeal.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_AttentionIdeal.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3))).1 = (fun _ => 1#1)
    ∧ (Cert.Pre_finite_AttentionIdeal.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3))).2.1 = (fun _ => 1#1)
    ∧ (Cert.Pre_finite_AttentionIdeal.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3))).2.2 = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_finite_AttentionRefIdeal [hPre_finite_AttentionRefIdeal : Cert.Pre_finite_AttentionRefIdeal.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite_AttentionRefIdeal.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3))).1 = (fun _ => 1#1)
    ∧ (Cert.Pre_finite_AttentionRefIdeal.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3))).2.1 = (fun _ => 1#1)
    ∧ (Cert.Pre_finite_AttentionRefIdeal.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionIdeal_pre_finite_AttentionIdeal [hAttentionIdeal : Cert.AttentionIdeal.Facts] [hPre_finite_AttentionIdeal : Cert.Pre_finite_AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3))
      ∧ r.2.sem = fun _ => 0)

def quiescent_AttentionRefIdeal_pre_finite_AttentionRefIdeal [hAttentionRefIdeal : Cert.AttentionRefIdeal.Facts] [hPre_finite_AttentionRefIdeal : Cert.Pre_finite_AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_finite_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def preserves_Attention_AttentionIdeal : Prop :=
  IdealRules.named_const.Statement Cert.AttentionIdeal.κ "inv_sqrt_d" .f32 0x3DB504F3#32 (((Real.sqrt 128)⁻¹ : ℝ) : EReal)

def algebraic_AttentionIdeal_AttentionRefIdeal_pre_finite_AttentionIdeal [hAttentionIdeal : Cert.AttentionIdeal.Facts] [hAttentionRefIdeal : Cert.AttentionRefIdeal.Facts] [hPre_finite_AttentionIdeal : Cert.Pre_finite_AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite_AttentionIdeal m →
    (∀ c : Dev Cert.AttentionIdeal.nD,
      m ((c.tc : Thread Cert.AttentionIdeal.nD Cert.AttentionIdeal.τ).loc Cert.AttentionIdeal.main_arg0) = m' (((0 : Dev Cert.AttentionRefIdeal.nD).tc : Thread Cert.AttentionRefIdeal.nD Cert.AttentionRefIdeal.τ).loc Cert.AttentionRefIdeal.main_arg0)
      ∧ m ((c.tc : Thread Cert.AttentionIdeal.nD Cert.AttentionIdeal.τ).loc Cert.AttentionIdeal.main_arg1) = m' (((0 : Dev Cert.AttentionRefIdeal.nD).tc : Thread Cert.AttentionRefIdeal.nD Cert.AttentionRefIdeal.τ).loc Cert.AttentionRefIdeal.main_arg1)
      ∧ m ((c.tc : Thread Cert.AttentionIdeal.nD Cert.AttentionIdeal.τ).loc Cert.AttentionIdeal.main_arg2) = Layout.block ⟨3, ![2048, 8, 128]⟩ ⟨3, ![2048, 32, 128]⟩ 1 4 c (m' (((0 : Dev Cert.AttentionRefIdeal.nD).tc : Thread Cert.AttentionRefIdeal.nD Cert.AttentionRefIdeal.τ).loc Cert.AttentionRefIdeal.main_arg2))
      ∧ m ((c.tc : Thread Cert.AttentionIdeal.nD Cert.AttentionIdeal.τ).loc Cert.AttentionIdeal.main_arg3) = Layout.block ⟨3, ![2048, 8, 128]⟩ ⟨3, ![2048, 32, 128]⟩ 1 4 c (m' (((0 : Dev Cert.AttentionRefIdeal.nD).tc : Thread Cert.AttentionRefIdeal.nD Cert.AttentionRefIdeal.τ).loc Cert.AttentionRefIdeal.main_arg3))) →
    ∃ (v0 : Buf (Elt Ideal) (((0 : Dev Cert.AttentionRefIdeal.nD).tc : Thread Cert.AttentionRefIdeal.nD Cert.AttentionRefIdeal.τ).loc Cert.AttentionRefIdeal.main_v40)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v1) = Layout.block ⟨2, ![2048, 1024]⟩ ⟨2, ![2048, 4096]⟩ 1 4 c v0
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ θ_run (Cert.AttentionRefIdeal.defs (F := Ideal)) (onTc (τ := Cert.AttentionRefIdeal.τ) (Cert.AttentionRefIdeal.main (F := Ideal))) ⟨m', fun _ => 0, g'⟩ (fun r =>
          r.2.mem (((0 : Dev Cert.AttentionRefIdeal.nD).tc : Thread Cert.AttentionRefIdeal.nD Cert.AttentionRefIdeal.τ).loc Cert.AttentionRefIdeal.main_v40) = v0
          ∧ r.2.mem (((0 : Dev Cert.AttentionRefIdeal.nD).tc : Thread Cert.AttentionRefIdeal.nD Cert.AttentionRefIdeal.τ).loc Cert.AttentionRefIdeal.main_arg0) = m' (((0 : Dev Cert.AttentionRefIdeal.nD).tc : Thread Cert.AttentionRefIdeal.nD Cert.AttentionRefIdeal.τ).loc Cert.AttentionRefIdeal.main_arg0)
          ∧ r.2.mem (((0 : Dev Cert.AttentionRefIdeal.nD).tc : Thread Cert.AttentionRefIdeal.nD Cert.AttentionRefIdeal.τ).loc Cert.AttentionRefIdeal.main_arg1) = m' (((0 : Dev Cert.AttentionRefIdeal.nD).tc : Thread Cert.AttentionRefIdeal.nD Cert.AttentionRefIdeal.τ).loc Cert.AttentionRefIdeal.main_arg1)
          ∧ r.2.mem (((0 : Dev Cert.AttentionRefIdeal.nD).tc : Thread Cert.AttentionRefIdeal.nD Cert.AttentionRefIdeal.τ).loc Cert.AttentionRefIdeal.main_arg2) = m' (((0 : Dev Cert.AttentionRefIdeal.nD).tc : Thread Cert.AttentionRefIdeal.nD Cert.AttentionRefIdeal.τ).loc Cert.AttentionRefIdeal.main_arg2)
          ∧ r.2.mem (((0 : Dev Cert.AttentionRefIdeal.nD).tc : Thread Cert.AttentionRefIdeal.nD Cert.AttentionRefIdeal.τ).loc Cert.AttentionRefIdeal.main_arg3) = m' (((0 : Dev Cert.AttentionRefIdeal.nD).tc : Thread Cert.AttentionRefIdeal.nD Cert.AttentionRefIdeal.τ).loc Cert.AttentionRefIdeal.main_arg3))

def Claim : Prop :=
  ∃ (hKernel : Cert.Kernel.Facts) (hKernelIdeal : Cert.KernelIdeal.Facts) (hReferenceIdeal : Cert.ReferenceIdeal.Facts) (hAttention : Cert.Attention.Facts) (hAttentionIdeal : Cert.AttentionIdeal.Facts) (hAttentionRefIdeal : Cert.AttentionRefIdeal.Facts) (hPre_finite_AttentionIdeal : Cert.Pre_finite_AttentionIdeal.Facts) (hPre_finite_AttentionRefIdeal : Cert.Pre_finite_AttentionRefIdeal.Facts),
    quiescent_Kernel (hKernel := hKernel)
    ∧ quiescent_KernelIdeal (hKernelIdeal := hKernelIdeal)
    ∧ quiescent_ReferenceIdeal (hReferenceIdeal := hReferenceIdeal)
    ∧ quiescent_Attention (hAttention := hAttention)
    ∧ quiescent_AttentionIdeal (hAttentionIdeal := hAttentionIdeal)
    ∧ quiescent_AttentionIdeal_pre_finite_AttentionIdeal (hAttentionIdeal := hAttentionIdeal) (hPre_finite_AttentionIdeal := hPre_finite_AttentionIdeal)
    ∧ quiescent_AttentionRefIdeal (hAttentionRefIdeal := hAttentionRefIdeal)
    ∧ quiescent_AttentionRefIdeal_pre_finite_AttentionRefIdeal (hAttentionRefIdeal := hAttentionRefIdeal) (hPre_finite_AttentionRefIdeal := hPre_finite_AttentionRefIdeal)
    ∧ preserves_Kernel_KernelIdeal
    ∧ algebraic_KernelIdeal_ReferenceIdeal (hKernelIdeal := hKernelIdeal) (hReferenceIdeal := hReferenceIdeal)
    ∧ preserves_Attention_AttentionIdeal
    ∧ algebraic_AttentionIdeal_AttentionRefIdeal_pre_finite_AttentionIdeal (hAttentionIdeal := hAttentionIdeal) (hAttentionRefIdeal := hAttentionRefIdeal) (hPre_finite_AttentionIdeal := hPre_finite_AttentionIdeal)
-- ==== Pre_finite_AttentionIdeal.lean ====
abbrev S2048x1024 : Shape := ⟨2, ![2048, 1024]⟩
abbrev S1024x4096 : Shape := ⟨2, ![1024, 4096]⟩
abbrev S2048x8x128 : Shape := ⟨3, ![2048, 8, 128]⟩
abbrev S_ : Shape := ⟨0, ![]⟩

class Facts : Prop where
  bcast_S_S2048x1024 : S_.BroadcastsInDim S2048x1024 (![] : Fin 0 → Fin S2048x1024.rank)
  bcast_S_S1024x4096 : S_.BroadcastsInDim S1024x4096 (![] : Fin 0 → Fin S1024x4096.rank)
  bcast_S_S2048x8x128 : S_.BroadcastsInDim S2048x8x128 (![] : Fin 0 → Fin S2048x8x128.rank)

variable [Facts]

def fn {F : FTy → Type} [FloatOps F] (main_arg0 : FVec F S2048x1024 .f32) (main_arg1 : FVec F S1024x4096 .f32) (main_arg2 : FVec F S2048x8x128 .f32) (main_arg3 : FVec F S2048x8x128 .f32) : IVec S2048x1024 1 × IVec S1024x4096 1 × IVec S2048x8x128 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S2048x8x128 .f32 := Host.absf main_arg2
  let main_cst_1 : FVec F S_ .f32 := constant S_ .f32 0x7F800000#32
  let main_v7 : FVec F S2048x8x128 .f32 := broadcastInDim S2048x8x128 ![] bcast_S_S2048x8x128 main_cst_1
  let main_v8 : IVec S2048x8x128 1 := cmpf .olt main_v6 main_v7
  (main_v2, main_v5, main_v8)
-- ==== Pre_finite_AttentionRefIdeal.lean ====
abbrev S2048x1024 : Shape := ⟨2, ![2048, 1024]⟩
abbrev S1024x4096 : Shape := ⟨2, ![1024, 4096]⟩
abbrev S2048x32x128 : Shape := ⟨3, ![2048, 32, 128]⟩
abbrev S_ : Shape := ⟨0, ![]⟩

class Facts : Prop where
  bcast_S_S2048x1024 : S_.BroadcastsInDim S2048x1024 (![] : Fin 0 → Fin S2048x1024.rank)
  bcast_S_S1024x4096 : S_.BroadcastsInDim S1024x4096 (![] : Fin 0 → Fin S1024x4096.rank)
  bcast_S_S2048x32x128 : S_.BroadcastsInDim S2048x32x128 (![] : Fin 0 → Fin S2048x32x128.rank)

variable [Facts]

def fn {F : FTy → Type} [FloatOps F] (main_arg0 : FVec F S2048x1024 .f32) (main_arg1 : FVec F S1024x4096 .f32) (main_arg2 : FVec F S2048x32x128 .f32) (main_arg3 : FVec F S2048x32x128 .f32) : IVec S2048x1024 1 × IVec S1024x4096 1 × IVec S2048x32x128 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S2048x32x128 .f32 := Host.absf main_arg2
  let main_cst_1 : FVec F S_ .f32 := constant S_ .f32 0x7F800000#32
  let main_v7 : FVec F S2048x32x128 .f32 := broadcastInDim S2048x32x128 ![] bcast_S_S2048x32x128 main_cst_1
  let main_v8 : IVec S2048x32x128 1 := cmpf .olt main_v6 main_v7
  (main_v2, main_v5, main_v8)
-- ==== Kernel.lean ====
abbrev S2048x1024 : Shape := ⟨2, ![2048, 1024]⟩
abbrev S4096x1024 : Shape := ⟨2, ![4096, 1024]⟩
abbrev S1024x1024 : Shape := ⟨2, ![1024, 1024]⟩
abbrev S7x512x1024 : Shape := ⟨3, ![7, 512, 1024]⟩
abbrev S17 : Shape := ⟨1, ![17]⟩
abbrev S12 : Shape := ⟨1, ![12]⟩
abbrev S1 : Shape := ⟨1, ![1]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 3
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .f32⟩
  | .hbm, ⟨2, _⟩ => ⟨S2048x1024, .bf16⟩
  | .local _ .vmem, ⟨0, _⟩ => ⟨S2048x1024, .bf16⟩
  | .local _ .vmem, ⟨1, _⟩ => ⟨S1024x1024, .f32⟩
  | .local _ .vmem, ⟨2, _⟩ => ⟨S1024x1024, .bf16⟩
  | .local _ .vmem, ⟨3, _⟩ => ⟨S7x512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v25 : BitVec 32 := Scalar.muli v2 c1024_i32
  let c0_i32_13 : BitVec 32 := 0#32
  ![v25.toNat, 0]
def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15 : BitVec 32 := 1#32
  let v30 : BitVec 32 := Scalar.muli v13 c1_i32_15
  let v31 : BitVec 32 := Scalar.addi c0_i32_16 v30
  v31.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18 : BitVec 32 := 1#32
  let v32 : BitVec 32 := Scalar.muli v24 c1_i32_18
  let v33 : BitVec 32 := Scalar.addi c0_i32_19 v32
  v33.toNat
def k0_off2 (d0 : Dev nD) (c0_i32_25 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v42 : BitVec 32 := Scalar.muli v2 c512_i32
  let v43 : BitVec 32 := Scalar.addi v42 c0_i32_25
  let v44 : Index := Scalar.indexCast v43
  let c0_26 : Index := 0#32
  ![v44.toNat, 0]
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_43 : BitVec 32 := 1#32
  let v64 : BitVec 32 := Scalar.muli v24 c1_i32_43
  let v65 : BitVec 32 := Scalar.addi c0_i32_44 v64
  v65.toNat
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_53 : BitVec 32 := 1#32
  let v74 : BitVec 32 := Scalar.muli v13 c1_i32_53
  let v75 : BitVec 32 := Scalar.addi c0_i32_54 v74
  v75.toNat
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_76 : BitVec 32 := 1#32
  let v106 : BitVec 32 := Scalar.muli v24 c1_i32_76
  let v107 : BitVec 32 := Scalar.addi c0_i32_77 v106
  v107.toNat
def k0_dev6 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_86 : BitVec 32 := 1#32
  let v116 : BitVec 32 := Scalar.muli v13 c1_i32_86
  let v117 : BitVec 32 := Scalar.addi c0_i32_87 v116
  v117.toNat
def k0_off3 (d0 : Dev nD) (c0_i32_93 : BitVec 32) (c0_i32_109 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_92 : BitVec 32 := 1#32
  let v126 : BitVec 32 := Scalar.subi v2 c1_i32_92
  let v127 : BitVec 32 := Scalar.subi v126 c0_i32_93
  let c4_i32_94 : BitVec 32 := 4#32
  let c0_i32_95 : BitVec 32 := 0#32
  let v128 : BitVec 1 := Scalar.cmpi .eq c4_i32_94 c0_i32_95
  let c1_i32_96 : BitVec 32 := 1#32
  let v129 : BitVec 32 := Scalar.select v128 c1_i32_96 c4_i32_94
  let v130 : BitVec 32 := Scalar.remsi v127 v129
  let c0_i32_98 : BitVec 32 := 0#32
  let v132 : BitVec 1 := Scalar.cmpi .slt v130 c0_i32_98
  let c0_i32_99 : BitVec 32 := 0#32
  let v133 : BitVec 1 := Scalar.cmpi .slt v129 c0_i32_99
  let v134 : BitVec 1 := Scalar.xori v132 v133
  let c0_i32_97 : BitVec 32 := 0#32
  let v131 : BitVec 1 := Scalar.cmpi .ne v130 c0_i32_97
  let v135 : BitVec 1 := Scalar.andi v134 v131
  let v136 : BitVec 32 := Scalar.addi v130 v129
  let v137 : BitVec 32 := Scalar.select v135 v136 v130
  let c512_i32_108 : BitVec 32 := 512#32
  let v150 : BitVec 32 := Scalar.muli v137 c512_i32_108
  let v151 : BitVec 32 := Scalar.addi v150 c0_i32_109
  let v152 : Index := Scalar.indexCast v151
  let c0_110 : Index := 0#32
  ![v152.toNat, 0]
def k0_off4 (d0 : Dev nD) (c0_i32_101 : BitVec 32) (c256_i32_115 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_100 : BitVec 32 := 1#32
  let v138 : BitVec 32 := Scalar.addi v2 c1_i32_100
  let v139 : BitVec 32 := Scalar.addi v138 c0_i32_101
  let c4_i32_102 : BitVec 32 := 4#32
  let c0_i32_103 : BitVec 32 := 0#32
  let v140 : BitVec 1 := Scalar.cmpi .eq c4_i32_102 c0_i32_103
  let c1_i32_104 : BitVec 32 := 1#32
  let v141 : BitVec 32 := Scalar.select v140 c1_i32_104 c4_i32_102
  let v142 : BitVec 32 := Scalar.remsi v139 v141
  let c0_i32_106 : BitVec 32 := 0#32
  let v144 : BitVec 1 := Scalar.cmpi .slt v142 c0_i32_106
  let c0_i32_107 : BitVec 32 := 0#32
  let v145 : BitVec 1 := Scalar.cmpi .slt v141 c0_i32_107
  let v146 : BitVec 1 := Scalar.xori v144 v145
  let c0_i32_105 : BitVec 32 := 0#32
  let v143 : BitVec 1 := Scalar.cmpi .ne v142 c0_i32_105
  let v147 : BitVec 1 := Scalar.andi v146 v143
  let v148 : BitVec 32 := Scalar.addi v142 v141
  let v149 : BitVec 32 := Scalar.select v147 v148 v142
  let c512_i32_114 : BitVec 32 := 512#32
  let v158 : BitVec 32 := Scalar.muli v149 c512_i32_114
  let v159 : BitVec 32 := Scalar.addi v158 c256_i32_115
  let v160 : Index := Scalar.indexCast v159
  let c0_116 : Index := 0#32
  ![v160.toNat, 0]
def k0_dev7 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_173 : BitVec 32 := 1#32
  let v206 : BitVec 32 := Scalar.muli v24 c1_i32_173
  let v207 : BitVec 32 := Scalar.addi c0_i32_174 v206
  v207.toNat
def k0_dev8 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_183 : BitVec 32 := 1#32
  let v216 : BitVec 32 := Scalar.muli v13 c1_i32_183
  let v217 : BitVec 32 := Scalar.addi c0_i32_184 v216
  v217.toNat
def k0_dev9 (d0 : Dev nD) : Nat :=
  let c0_i32_271 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_270 : BitVec 32 := 1#32
  let v306 : BitVec 32 := Scalar.muli v24 c1_i32_270
  let v307 : BitVec 32 := Scalar.addi c0_i32_271 v306
  v307.toNat
def k0_dev10 (d0 : Dev nD) : Nat :=
  let c0_i32_281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_280 : BitVec 32 := 1#32
  let v316 : BitVec 32 := Scalar.muli v13 c1_i32_280
  let v317 : BitVec 32 := Scalar.addi c0_i32_281 v316
  v317.toNat
def k0_dev11 (d0 : Dev nD) : Nat :=
  let c0_i32_367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_366 : BitVec 32 := 1#32
  let v406 : BitVec 32 := Scalar.muli v24 c1_i32_366
  let v407 : BitVec 32 := Scalar.addi c0_i32_367 v406
  v407.toNat
def k0_dev12 (d0 : Dev nD) : Nat :=
  let c0_i32_377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_376 : BitVec 32 := 1#32
  let v416 : BitVec 32 := Scalar.muli v13 c1_i32_376
  let v417 : BitVec 32 := Scalar.addi c0_i32_377 v416
  v417.toNat
def k0_dev13 (d0 : Dev nD) : Nat :=
  let c0_i32_464 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_463 : BitVec 32 := 1#32
  let v506 : BitVec 32 := Scalar.muli v24 c1_i32_463
  let v507 : BitVec 32 := Scalar.addi c0_i32_464 v506
  v507.toNat
def k0_dev14 (d0 : Dev nD) : Nat :=
  let c0_i32_474 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_473 : BitVec 32 := 1#32
  let v516 : BitVec 32 := Scalar.muli v13 c1_i32_473
  let v517 : BitVec 32 := Scalar.addi c0_i32_474 v516
  v517.toNat
def k0_dev15 (d0 : Dev nD) : Nat :=
  let c0_i32_561 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_560 : BitVec 32 := 1#32
  let v606 : BitVec 32 := Scalar.muli v24 c1_i32_560
  let v607 : BitVec 32 := Scalar.addi c0_i32_561 v606
  v607.toNat
def k0_dev16 (d0 : Dev nD) : Nat :=
  let c0_i32_571 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_570 : BitVec 32 := 1#32
  let v616 : BitVec 32 := Scalar.muli v13 c1_i32_570
  let v617 : BitVec 32 := Scalar.addi c0_i32_571 v616
  v617.toNat
def k0_dev17 (d0 : Dev nD) : Nat :=
  let c0_i32_658 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_657 : BitVec 32 := 1#32
  let v706 : BitVec 32 := Scalar.muli v24 c1_i32_657
  let v707 : BitVec 32 := Scalar.addi c0_i32_658 v706
  v707.toNat
def k0_dev18 (d0 : Dev nD) : Nat :=
  let c0_i32_668 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_667 : BitVec 32 := 1#32
  let v716 : BitVec 32 := Scalar.muli v13 c1_i32_667
  let v717 : BitVec 32 := Scalar.addi c0_i32_668 v716
  v717.toNat
def k0_dev19 (d0 : Dev nD) : Nat :=
  let c0_i32_715 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_714 : BitVec 32 := 1#32
  let v754 : BitVec 32 := Scalar.muli v24 c1_i32_714
  let v755 : BitVec 32 := Scalar.addi c0_i32_715 v754
  v755.toNat
def k0_dev20 (d0 : Dev nD) : Nat :=
  let c0_i32_725 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_724 : BitVec 32 := 1#32
  let v764 : BitVec 32 := Scalar.muli v13 c1_i32_724
  let v765 : BitVec 32 := Scalar.addi c0_i32_725 v764
  v765.toNat
def k0_off5 (d0 : Dev nD) (c1_i32_730 : BitVec 32) (c0_i32_745 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v774 : BitVec 32 := Scalar.addi v2 c1_i32_730
  let c4_i32_731 : BitVec 32 := 4#32
  let c0_i32_732 : BitVec 32 := 0#32
  let v775 : BitVec 1 := Scalar.cmpi .eq c4_i32_731 c0_i32_732
  let c1_i32_733 : BitVec 32 := 1#32
  let v776 : BitVec 32 := Scalar.select v775 c1_i32_733 c4_i32_731
  let v777 : BitVec 32 := Scalar.remsi v774 v776
  let c0_i32_735 : BitVec 32 := 0#32
  let v779 : BitVec 1 := Scalar.cmpi .slt v777 c0_i32_735
  let c0_i32_736 : BitVec 32 := 0#32
  let v780 : BitVec 1 := Scalar.cmpi .slt v776 c0_i32_736
  let v781 : BitVec 1 := Scalar.xori v779 v780
  let c0_i32_734 : BitVec 32 := 0#32
  let v778 : BitVec 1 := Scalar.cmpi .ne v777 c0_i32_734
  let v782 : BitVec 1 := Scalar.andi v781 v778
  let v783 : BitVec 32 := Scalar.addi v777 v776
  let v784 : BitVec 32 := Scalar.select v782 v783 v777
  let c512_i32_744 : BitVec 32 := 512#32
  let v796 : BitVec 32 := Scalar.muli v784 c512_i32_744
  let v797 : BitVec 32 := Scalar.addi v796 c0_i32_745
  let c0_i32_748 : BitVec 32 := 0#32
  ![v797.toNat, 0]
def k0_off5_at (r : Fin 8) : BitVec 32 × BitVec 32 :=
  if r.val < 4 then
    if r.val < 2 then
      if r.val < 1 then
        (1#32, 0#32)
      else
        (0#32, 256#32)
    else
      if r.val < 3 then
        (1#32, 128#32)
      else
        (0#32, 384#32)
  else
    if r.val < 6 then
      if r.val < 5 then
        (1#32, 256#32)
      else
        (1#32, 384#32)
    else
      if r.val < 7 then
        (2#32, 256#32)
      else
        (2#32, 384#32)
def k0_off6 (d0 : Dev nD) (c1_i32_737 : BitVec 32) (c256_i32_752 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v785 : BitVec 32 := Scalar.subi v2 c1_i32_737
  let c4_i32_738 : BitVec 32 := 4#32
  let c0_i32_739 : BitVec 32 := 0#32
  let v786 : BitVec 1 := Scalar.cmpi .eq c4_i32_738 c0_i32_739
  let c1_i32_740 : BitVec 32 := 1#32
  let v787 : BitVec 32 := Scalar.select v786 c1_i32_740 c4_i32_738
  let v788 : BitVec 32 := Scalar.remsi v785 v787
  let c0_i32_742 : BitVec 32 := 0#32
  let v790 : BitVec 1 := Scalar.cmpi .slt v788 c0_i32_742
  let c0_i32_743 : BitVec 32 := 0#32
  let v791 : BitVec 1 := Scalar.cmpi .slt v787 c0_i32_743
  let v792 : BitVec 1 := Scalar.xori v790 v791
  let c0_i32_741 : BitVec 32 := 0#32
  let v789 : BitVec 1 := Scalar.cmpi .ne v788 c0_i32_741
  let v793 : BitVec 1 := Scalar.andi v792 v789
  let v794 : BitVec 32 := Scalar.addi v788 v787
  let v795 : BitVec 32 := Scalar.select v793 v794 v788
  let c512_i32_751 : BitVec 32 := 512#32
  let v803 : BitVec 32 := Scalar.muli v795 c512_i32_751
  let v804 : BitVec 32 := Scalar.addi v803 c256_i32_752
  let c0_i32_755 : BitVec 32 := 0#32
  ![v804.toNat, 0]
def k0_off6_at (r : Fin 8) : BitVec 32 × BitVec 32 :=
  if r.val < 4 then
    if r.val < 2 then
      if r.val < 1 then
        (1#32, 256#32)
      else
        (0#32, 0#32)
    else
      if r.val < 3 then
        (1#32, 384#32)
      else
        (0#32, 128#32)
  else
    if r.val < 6 then
      if r.val < 5 then
        (1#32, 0#32)
      else
        (1#32, 128#32)
    else
      if r.val < 7 then
        (2#32, 0#32)
      else
        (2#32, 128#32)
def k0_dev21 (d0 : Dev nD) : Nat :=
  let c0_i32_828 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_827 : BitVec 32 := 1#32
  let v874 : BitVec 32 := Scalar.muli v24 c1_i32_827
  let v875 : BitVec 32 := Scalar.addi c0_i32_828 v874
  v875.toNat
def k0_dev22 (d0 : Dev nD) : Nat :=
  let c0_i32_838 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_837 : BitVec 32 := 1#32
  let v884 : BitVec 32 := Scalar.muli v13 c1_i32_837
  let v885 : BitVec 32 := Scalar.addi c0_i32_838 v884
  v885.toNat
def k0_dev23 (d0 : Dev nD) : Nat :=
  let c0_i32_942 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_941 : BitVec 32 := 1#32
  let v994 : BitVec 32 := Scalar.muli v24 c1_i32_941
  let v995 : BitVec 32 := Scalar.addi c0_i32_942 v994
  v995.toNat
def k0_dev24 (d0 : Dev nD) : Nat :=
  let c0_i32_952 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_951 : BitVec 32 := 1#32
  let v1004 : BitVec 32 := Scalar.muli v13 c1_i32_951
  let v1005 : BitVec 32 := Scalar.addi c0_i32_952 v1004
  v1005.toNat
def k0_dev25 (d0 : Dev nD) : Nat :=
  let c0_i32_1027 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1026 : BitVec 32 := 1#32
  let v1078 : BitVec 32 := Scalar.muli v24 c1_i32_1026
  let v1079 : BitVec 32 := Scalar.addi c0_i32_1027 v1078
  v1079.toNat
def k0_dev26 (d0 : Dev nD) : Nat :=
  let c0_i32_1037 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1036 : BitVec 32 := 1#32
  let v1088 : BitVec 32 := Scalar.muli v13 c1_i32_1036
  let v1089 : BitVec 32 := Scalar.addi c0_i32_1037 v1088
  v1089.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x4096 : Shape := ⟨2, ![2048, 4096]⟩
abbrev S4096x1024 : Shape := ⟨2, ![4096, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .f32⟩
  | .hbm, ⟨2, _⟩ => ⟨S2048x4096, .f32⟩
  | .hbm, ⟨3, _⟩ => ⟨S2048x1024, .f32⟩
  | .hbm, ⟨4, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Attention.lean ====
abbrev S2048x1024 : Shape := ⟨2, ![2048, 1024]⟩
abbrev S1024x4096 : Shape := ⟨2, ![1024, 4096]⟩
abbrev S2048x8x128 : Shape := ⟨3, ![2048, 8, 128]⟩
abbrev S1024x1024 : Shape := ⟨2, ![1024, 1024]⟩
abbrev S_ : Shape := ⟨0, ![]⟩
abbrev S64x1024 : Shape := ⟨2, ![64, 1024]⟩
abbrev S512x1024 : Shape := ⟨2, ![512, 1024]⟩
abbrev S64x8x128 : Shape := ⟨3, ![64, 8, 128]⟩
abbrev S512x8x128 : Shape := ⟨3, ![512, 8, 128]⟩
abbrev S512x128 : Shape := ⟨2, ![512, 128]⟩
abbrev S512x1x128 : Shape := ⟨3, ![512, 1, 128]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x8x128, .f32⟩
  | .hbm, ⟨3, _⟩ => ⟨S2048x8x128, .f32⟩
  | .hbm, ⟨4, _⟩ => ⟨S2048x1024, .bf16⟩
  | .local _ .vmem, ⟨0, _⟩ => ⟨S2048x1024, .f32⟩
  | .local _ .vmem, ⟨1, _⟩ => ⟨S2048x8x128, .f32⟩
  | .local _ .vmem, ⟨2, _⟩ => ⟨S2048x8x128, .f32⟩
  | .local _ .vmem, ⟨3, _⟩ => ⟨S2048x1024, .bf16⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 4
abbrev τ : Topo := Topo.v7x

variable {F : FTy → Type} [FloatOps F]

abbrev grid0 : Pipeline.Grid := .none

def k0_off1 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v3 : BitVec 32 := Scalar.muli v2 c1024_i32
  ![0, v3.toNat]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AttentionIdeal.lean ====
variable {F : FTy → Type} [FloatOps F] [Named F]
def κ : String → Option EReal := fun
  | "inv_sqrt_d" => some (((Real.sqrt 128)⁻¹ : ℝ) : EReal)
  | _ => none
-- ==== AttentionRefIdeal.lean ====
abbrev S2048x1024 : Shape := ⟨2, ![2048, 1024]⟩
abbrev S1024x4096 : Shape := ⟨2, ![1024, 4096]⟩
abbrev S2048x32x128 : Shape := ⟨3, ![2048, 32, 128]⟩
abbrev S2048x4096 : Shape := ⟨2, ![2048, 4096]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S32x2048x2048 : Shape := ⟨3, ![32, 2048, 2048]⟩
abbrev S1x2048x2048 : Shape := ⟨3, ![1, 2048, 2048]⟩
abbrev S32x2048 : Shape := ⟨2, ![32, 2048]⟩
abbrev S32x2048x1 : Shape := ⟨3, ![32, 2048, 1]⟩
abbrev S1x2048x1 : Shape := ⟨3, ![1, 2048, 1]⟩
abbrev S32x128x2048 : Shape := ⟨3, ![32, 128, 2048]⟩

abbrev nBuf : Space → Nat
  | .hbm => 137
  | .vmem => 0
  | .smem => 0
  | _ => 0

abbrev hbmTy0_0 (i : Nat) : BufTy := match i % 128 with
  | 0 => ⟨S2048x1024, .f32⟩
  | 1 => ⟨S1024x4096, .f32⟩
  | 2 => ⟨S2048x32x128, .f32⟩
  | 3 => ⟨S2048x32x128, .f32⟩
  | 4 => ⟨S2048x4096, .f32⟩
  | 5 => ⟨S2048x32x128, .f32⟩
  | 6 => ⟨S2048, .i32⟩
  | 7 => ⟨S_, .i32⟩
  | 8 => ⟨S_, .i32⟩
  | 9 => ⟨S2048, .i32⟩
  | 10 => ⟨S2048, .i32⟩
  | 11 => ⟨S2048, .i32⟩
  | 12 => ⟨S_, .i32⟩
  | 13 => ⟨S2048, .i32⟩
  | 14 => ⟨S2048, .i1⟩
  | 15 => ⟨S2048, .i32⟩
  | 16 => ⟨S2048, .i32⟩
  | 17 => ⟨S_, .i32⟩
  | 18 => ⟨S2048, .i32⟩
  | 19 => ⟨S2048, .i1⟩
  | 20 => ⟨S2048, .i1⟩
  | 21 => ⟨S_, .i32⟩
  | 22 => ⟨S2048, .i32⟩
  | 23 => ⟨S2048, .i32⟩
  | 24 => ⟨S2048, .i32⟩
  | 25 => ⟨S2048x1, .i32⟩
  | 26 => ⟨S2048, .i32⟩
  | 27 => ⟨S_, .i32⟩
  | 28 => ⟨S_, .i32⟩
  | 29 => ⟨S2048, .i32⟩
  | 30 => ⟨S2048, .i32⟩
  | 31 => ⟨S2048, .i32⟩
  | 32 => ⟨S_, .i32⟩
  | 33 => ⟨S2048, .i32⟩
  | 34 => ⟨S2048, .i1⟩
  | 35 => ⟨S2048, .i32⟩
  | 36 => ⟨S2048, .i32⟩
  | 37 => ⟨S_, .i32⟩
  | 38 => ⟨S2048, .i32⟩
  | 39 => ⟨S2048, .i1⟩
  | 40 => ⟨S2048, .i1⟩
  | 41 => ⟨S_, .i32⟩
  | 42 => ⟨S2048, .i32⟩
  | 43 => ⟨S2048, .i32⟩
  | 44 => ⟨S2048, .i32⟩
  | 45 => ⟨S1x2048, .i32⟩
  | 46 => ⟨S2048x2048, .i32⟩
  | 47 => ⟨S2048x2048, .i32⟩
  | 48 => ⟨S2048x2048, .i1⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S1x2048, .i32⟩
  | 56 => ⟨S1x2048, .i32⟩
  | 57 => ⟨S_, .i32⟩
  | 58 => ⟨S1x2048, .i32⟩
  | 59 => ⟨S1x2048, .i1⟩
  | 60 => ⟨S_, .i32⟩
  | 61 => ⟨S1x2048, .i32⟩
  | 62 => ⟨S1x2048, .i1⟩
  | 63 => ⟨S_, .i32⟩
  | 64 => ⟨S_, .i1⟩
  | 65 => ⟨S1x2048, .i1⟩
  | 66 => ⟨S1x2048, .i1⟩
  | 67 => ⟨S1x2048, .i1⟩
  | 68 => ⟨S1x2048, .i32⟩
  | 69 => ⟨S1x2048, .i32⟩
  | 70 => ⟨S1x2048, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S2048x1, .i32⟩
  | 78 => ⟨S2048x1, .i32⟩
  | 79 => ⟨S_, .i32⟩
  | 80 => ⟨S2048x1, .i32⟩
  | 81 => ⟨S2048x1, .i1⟩
  | 82 => ⟨S_, .i32⟩
  | 83 => ⟨S2048x1, .i32⟩
  | 84 => ⟨S2048x1, .i1⟩
  | 85 => ⟨S_, .i32⟩
  | 86 => ⟨S_, .i1⟩
  | 87 => ⟨S2048x1, .i1⟩
  | 88 => ⟨S2048x1, .i1⟩
  | 89 => ⟨S2048x1, .i1⟩
  | 90 => ⟨S2048x1, .i32⟩
  | 91 => ⟨S2048x1, .i32⟩
  | 92 => ⟨S2048x1, .i32⟩
  | 93 => ⟨S2048x2048, .i32⟩
  | 94 => ⟨S2048x2048, .i32⟩
  | 95 => ⟨S2048x2048, .i1⟩
  | 96 => ⟨S2048x2048, .i1⟩
  | 97 => ⟨S32x2048x2048, .f32⟩
  | 98 => ⟨S_, .f32⟩
  | 99 => ⟨S_, .f32⟩
  | 100 => ⟨S32x2048x2048, .f32⟩
  | 101 => ⟨S32x2048x2048, .f32⟩
  | 102 => ⟨S1x2048x2048, .i1⟩
  | 103 => ⟨S_, .f32⟩
  | 104 => ⟨S_, .f32⟩
  | 105 => ⟨S32x2048x2048, .i1⟩
  | 106 => ⟨S32x2048x2048, .f32⟩
  | 107 => ⟨S32x2048x2048, .f32⟩
  | 108 => ⟨S_, .f32⟩
  | 109 => ⟨S32x2048, .f32⟩
  | 110 => ⟨S32x2048x1, .f32⟩
  | 111 => ⟨S32x2048x2048, .f32⟩
  | 112 => ⟨S32x2048x2048, .f32⟩
  | 113 => ⟨S32x2048x2048, .f32⟩
  | 114 => ⟨S_, .i1⟩
  | 115 => ⟨S2048, .i1⟩
  | 116 => ⟨S1x2048x1, .i1⟩
  | 117 => ⟨S_, .f32⟩
  | 118 => ⟨S32x2048, .f32⟩
  | 119 => ⟨S32x2048x1, .f32⟩
  | 120 => ⟨S_, .f32⟩
  | 121 => ⟨S_, .f32⟩
  | 122 => ⟨S32x2048x1, .i1⟩
  | 123 => ⟨S32x2048x1, .f32⟩
  | 124 => ⟨S32x2048x1, .f32⟩
  | 125 => ⟨S32x2048x2048, .f32⟩
  | 126 => ⟨S32x2048x2048, .f32⟩
  | 127 => ⟨S1x2048x1, .i1⟩
  | _ => ⟨S2048x1024, .f32⟩

abbrev hbmTy0_1 (i : Nat) : BufTy := match i % 128 with
  | 0 => ⟨S_, .f32⟩
  | 1 => ⟨S_, .f32⟩
  | 2 => ⟨S32x2048x2048, .i1⟩
  | 3 => ⟨S32x2048x2048, .f32⟩
  | 4 => ⟨S32x2048x2048, .f32⟩
  | 5 => ⟨S32x128x2048, .f32⟩
  | 6 => ⟨S2048x32x128, .f32⟩
  | 7 => ⟨S2048x4096, .f32⟩
  | 8 => ⟨S2048x4096, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_c_1 : Ref sig .tc := ⟨.hbm, 49, rfl⟩
abbrev main_call2_v0 : Ref sig .tc := ⟨.hbm, 50, rfl⟩
abbrev main_call2_c : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_c_1 : Ref sig .tc := ⟨.hbm, 57, rfl⟩
abbrev main_call2_v5 : Ref sig .tc := ⟨.hbm, 58, rfl⟩
abbrev main_call2_v6 : Ref sig .tc := ⟨.hbm, 59, rfl⟩
abbrev main_call2_c_2 : Ref sig .tc := ⟨.hbm, 60, rfl⟩
abbrev main_call2_v7 : Ref sig .tc := ⟨.hbm, 61, rfl⟩
abbrev main_call2_v8 : Ref sig .tc := ⟨.hbm, 62, rfl⟩
abbrev main_call2_c_3 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_v11 : Ref sig .tc := ⟨.hbm, 70, rfl⟩
abbrev main_c_2 : Ref sig .tc := ⟨.hbm, 71, rfl⟩
abbrev main_call3_v0 : Ref sig .tc := ⟨.hbm, 72, rfl⟩
abbrev main_call3_c : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_c_1 : Ref sig .tc := ⟨.hbm, 79, rfl⟩
abbrev main_call3_v5 : Ref sig .tc := ⟨.hbm, 80, rfl⟩
abbrev main_call3_v6 : Ref sig .tc := ⟨.hbm, 81, rfl⟩
abbrev main_call3_c_2 : Ref sig .tc := ⟨.hbm, 82, rfl⟩
abbrev main_call3_v7 : Ref sig .tc := ⟨.hbm, 83, rfl⟩
abbrev main_call3_v8 : Ref sig .tc := ⟨.hbm, 84, rfl⟩
abbrev main_call3_c_3 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_v12 : Ref sig .tc := ⟨.hbm, 89, rfl⟩
abbrev main_call3_v13 : Ref sig .tc := ⟨.hbm, 90, rfl⟩
abbrev main_call3_v14 : Ref sig .tc := ⟨.hbm, 91, rfl⟩
abbrev main_v12 : Ref sig .tc := ⟨.hbm, 92, rfl⟩
abbrev main_v13 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_v17 : Ref sig .tc := ⟨.hbm, 97, rfl⟩
abbrev main_cst : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v22 : Ref sig .tc := ⟨.hbm, 107, rfl⟩
abbrev main_cst_4 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_c_5 : Ref sig .tc := ⟨.hbm, 114, rfl⟩
abbrev main_v28 : Ref sig .tc := ⟨.hbm, 115, rfl⟩
abbrev main_v29 : Ref sig .tc := ⟨.hbm, 116, rfl⟩
abbrev main_cst_6 : Ref sig .tc := ⟨.hbm, 117, rfl⟩
abbrev main_v30 : Ref sig .tc := ⟨.hbm, 118, rfl⟩
abbrev main_v31 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v36 : Ref sig .tc := ⟨.hbm, 132, rfl⟩
abbrev main_v37 : Ref sig .tc := ⟨.hbm, 133, rfl⟩
abbrev main_v38 : Ref sig .tc := ⟨.hbm, 134, rfl⟩
abbrev main_v39 : Ref sig .tc := ⟨.hbm, 135, rfl⟩
abbrev main_v40 : Ref sig .tc := ⟨.hbm, 136, rfl⟩

abbrev nD : Nat := 1
abbrev τ : Topo := Topo.v7x

variable {F : FTy → Type} [FloatOps F]
-- ==== Proof.Common.lean ====
/- The all-reduce's ring: the buffers and semaphores by strip and step, what every device computes,
   the exchange protocol as a rounds schedule, and what each device owes at launch.

   The four devices hold each a partial product of 2048 rows. The rows are cut into four chunks of 512
   (one per device) and every chunk into four strips of 128 rows. Strips 0 and 1 travel clockwise
   (device `c` to `c + 1`), strips 2 and 3 counter-clockwise. A strip makes six steps: three that add the
   receiver's own partial product (reduce-scatter) and three that only pass the sum on (all-gather).
   Slot `k` of a strip's buffer holds what device `c` has after `k` steps, and step `k` copies slot `k`
   into slot `k + 1` of the next device.

   The protocol: at the start a device signals both neighbours' barrier semaphore. The signal to the left
   neighbour hands over the six landing slots of the two clockwise strips (the left neighbour sends them),
   the signal to the right neighbour those of the two counter-clockwise strips. Each remote copy lends half
   of the source slot, which comes back through the send semaphore, and lands in a slot the sender was handed, which
   goes to the receiver through the receive semaphore. A copy to the result lends the other half of a slot. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Tactic
public import Mathlib.Algebra.BigOperators.Intervals
public import Mathlib.Tactic.Abel

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The ring's round states: a barrier cell has two duties, every other cell the duty `false`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: the given contents, every counter at zero. -/
def s₀ : MemSt nD τ sig (Elt F) := ⟨m, fun _ => 0, ρ⟩

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The device strip `q` goes to from device `c`, -/
def dst (q : Fin 4) (c : Dev nD) : Dev nD := if q.val < 2 then nxt c else prv c
/-- and the device it comes from. -/
def src (q : Fin 4) (c : Dev nD) : Dev nD := if q.val < 2 then prv c else nxt c

theorem src_dst (q : Fin 4) (c : Dev nD) : src q (dst q c) = c := by revert q c; decide
theorem dst_src (q : Fin 4) (c : Dev nD) : dst q (src q c) = c := by revert q c; decide

def around (q : Fin 4) : Dev nD ≃ Dev nD := ⟨dst q, src q, src_dst q, dst_src q⟩

/-! ## The buffers -/

abbrev xM : Memref sig .tc .vmem S2048x1024 .bf16 := Memref.whole cc0_stg0_0
abbrev wM : Memref sig .tc .hbm S4096x1024 .f32 := Memref.whole main_arg1
abbrev oM : Memref sig .tc .hbm S2048x1024 .bf16 := Memref.whole main_v1
abbrev wfM : Memref sig .tc .vmem S1024x1024 .f32 := Memref.whole cc0_scratch0
abbrev wbM : Memref sig .tc .vmem S1024x1024 .bf16 := Memref.whole cc0_scratch1
abbrev cM : Memref sig .tc .vmem S7x512x1024 .bf16 := Memref.whole cc0_scratch2

theorem slot_inb (q : Fin 4) (s : ℕ) :
    ∀ a, (![s % 7, 128 * q.val, 0] : Fin 3 → ℕ) a + S1x128x1024.size a ≤ S7x512x1024.size a := by
  intro a
  have h1 := Nat.mod_lt s (show 0 < 7 by decide)
  have h2 := q.isLt
  fin_cases a
  · show s % 7 + 1 ≤ 7; omega
  · show 128 * q.val + 128 ≤ 512; omega
  · show 0 + 1024 ≤ 1024; omega

/-- The rectangle of slot `s` of strip `q` in the exchange buffer, -/
abbrev slotR (q : Fin 4) (s : ℕ) : Rect S7x512x1024 :=
  Rect.unit (s := S7x512x1024) ![s % 7, 128 * q.val, 0] S1x128x1024.size (slot_inb q s)
/-- and the slot as a matrix of 128 rows. -/
abbrev slotM (q : Fin 4) (s : ℕ) : Memref sig .tc .vmem S128x1024 .bf16 :=
  (cM.slice (slotR q s) (fun _ => rfl)).squeeze S128x1024 squeezes_S1x128x1024_S128x1024

theorem rows_inb (n : ℕ) : ∀ a, (![128 * (n % 16), 0] : Fin 2 → ℕ) a + S128x1024.size a ≤ S2048x1024.size a := by
  intro a
  have h1 := Nat.mod_lt n (show 0 < 16 by decide)
  fin_cases a
  · show 128 * (n % 16) + 128 ≤ 2048; omega
  · show 0 + 1024 ≤ 1024; omega

/-- Rows `128 n … 128 n + 127` of a matrix of 2048 rows. -/
abbrev rowsR (n : ℕ) : Rect S2048x1024 := Rect.unit (s := S2048x1024) ![128 * (n % 16), 0] S128x1024.size (rows_inb n)
/-- Those rows of the result. -/
abbrev outM (n : ℕ) : Memref sig .tc .hbm S128x1024 .bf16 := oM.slice (rowsR n) (fun _ => rfl)

/-- The rows of `Wo` device `c` multiplies by. -/
abbrev woM (c : Dev nD) : Memref sig .tc .hbm S1024x1024 .f32 :=
  wM.slice (Rect.unit (s := S4096x1024) (k0_off1 c) S1024x1024.size (k0_off1_inb c)) (fun _ => rfl)

/-! ## The semaphores -/

abbrev barS : Sem sig := (SemArray.scalar (sig.barrier 0 rfl) : Sems sig S_).sem

/-- The send (`b = 0`) and receive (`b = 1`) semaphore of step `k` of strip `q`. -/
def dq (q : Fin 4) (k : ℕ) (b : Fin 2) : DmaSem sig :=
  ⟨18 + 24 * (q.val / 2) + 12 * b.val + 6 * (q.val % 2) + k % 6, by
    have := q.isLt; have := b.isLt; have := Nat.mod_lt k (show 0 < 6 by decide)
    show _ < 66; omega⟩
/-- The semaphore of the copy of slot `3 + j` of strip `q` to the result. -/
def dout (q : Fin 4) (j : Fin 4) : DmaSem sig :=
  ⟨1 + (if j.val < 2 then 4 * (q.val % 2) + 2 * j.val + q.val / 2 else 8 + 4 * (j.val - 2) + 2 * (q.val % 2) + q.val / 2), by
    have := q.isLt; have := j.isLt
    show _ < 66; split <;> omega⟩
/-- The semaphore of the copy of `Wo`'s rows. -/
def dwo : DmaSem sig := ⟨17, by show 17 < 66; decide⟩

abbrev barCell (c : Dev nD) : GSem nD τ sig := ((c : Thread nD τ), .reg barS)
abbrev dcell (c : Dev nD) (s : DmaSem sig) : GSem nD τ sig := ((c : Thread nD τ), .dma s)
abbrev sendCell (c : Dev nD) (q : Fin 4) (k : ℕ) : GSem nD τ sig := dcell c (dq q k 0)
abbrev recvCell (c : Dev nD) (q : Fin 4) (k : ℕ) : GSem nD τ sig := dcell c (dq q k 1)
abbrev outCell (c : Dev nD) (q j : Fin 4) : GSem nD τ sig := dcell c (dout q j)

/-- The strip, the step and the direction a semaphore number stands for. -/
def stripOf (s : ℕ) : Fin 4 := ⟨(2 * ((s - 18) / 24) + (s - 18) % 12 / 6) % 4, Nat.mod_lt _ (by decide)⟩
def outStripOf (s : ℕ) : Fin 4 :=
  ⟨(if s < 9 then (s - 1) / 4 + 2 * ((s - 1) % 2) else (s - 9) % 4 / 2 + 2 * ((s - 1) % 2)) % 4, Nat.mod_lt _ (by decide)⟩
def outStepOf (s : ℕ) : Fin 4 := ⟨(if s < 9 then (s - 1) % 4 / 2 else 2 + (s - 9) / 4) % 4, Nat.mod_lt _ (by decide)⟩

/-- The units a strip's copy credits, a result strip's and the copy of `Wo`'s rows'. -/
def NS : ℕ := (slotM 0 0).view.dmaCredit
def NO : ℕ := (outM 0).view.dmaCredit
def NW : ℕ := wfM.view.dmaCredit
theorem slot_amt (q : Fin 4) (s : ℕ) : (slotM q s).view.dmaCredit = NS := rfl
theorem out_amt (n : ℕ) : (outM n).view.dmaCredit = NO := rfl
theorem wf_amt : wfM.view.dmaCredit = NW := rfl
theorem NS_pos : 0 < NS := View.dmaCredit_pos _ (by decide)
theorem NO_pos : 0 < NO := View.dmaCredit_pos _ (by decide)
theorem NW_pos : 0 < NW := View.dmaCredit_pos _ (by decide)

/-! ## Contents -/

/-- Device `c`'s block of the context. -/
def xstg (c : Dev nD) : Vec F S2048x1024 .bf16 :=
  (win0_0.blk (0 : Fin 1)).view.read (Elt F) ((s₀ m ρ).mem ((c : Thread nD τ).loc main_arg0))
/-- Its rows of `Wo` -/
def woRows (c : Dev nD) : Vec F S1024x1024 .f32 := (woM c).view.read (Elt F) (m ((c : Thread nD τ).loc main_arg1))
/-- rounded. -/
def wob (c : Dev nD) : FVec F S1024x1024 .bf16 := k0_pay1 (woRows m c)

/-- Rows `128 n …` of device `c`'s block of the context, -/
def xrow (c : Dev nD) (n : ℕ) : Vec F S128x1024 .bf16 := (xM).view.readAt (Elt F) (rowsR n).toLoadRect (xstg m ρ c)
/-- and of its partial product, rounded. -/
def part (c : Dev nD) (n : ℕ) : FVec F S128x1024 .bf16 := k0_pay3 (xrow m ρ c n) (wob m c)

/-- The chunk whose partial product device `c` adds at step `k` of strip `q`. -/
def chunkAt (q : Fin 4) (k : ℕ) (c : Dev nD) : ℕ := if q.val < 2 then (c.val + (3 - k)) % 4 else (c.val + k + 1) % 4

/-- Slot `k` of strip `q` on device `c`: its own partial product, then what came from the device before with its
    own part added (the first three steps) or as it came. -/
def acc (q : Fin 4) : ℕ → Dev nD → FVec F S128x1024 .bf16
  | 0, c => part m ρ c (4 * c.val + q.val)
  | k + 1, c => if k < 3 then addf (acc q k (src q c)) (part m ρ c (4 * chunkAt q k c + q.val)) else acc q k (src q c)

theorem acc_add (q : Fin 4) (k : ℕ) (hk : k < 3) (c : Dev nD) :
    acc m ρ q (k + 1) c = addf (acc m ρ q k (src q c)) (part m ρ c (4 * chunkAt q k c + q.val)) := by
  rw [acc, if_pos hk]
theorem acc_pass (q : Fin 4) (k : ℕ) (hk : 3 ≤ k) (c : Dev nD) : acc m ρ q (k + 1) c = acc m ρ q k (src q c) := by
  rw [acc, if_neg (by omega)]

/-- The strip of the result slot `3 + j` of strip `q` is copied to on device `c`. -/
def outRow (c : Dev nD) (q j : Fin 4) : ℕ :=
  4 * (if q.val < 2 then (c.val + 5 - j.val) % 4 else (c.val + 3 + j.val) % 4) + q.val

/-! ## The schedule -/

/-- A landing slot of strip `q` on device `d`, with any contents. -/
def land (d : Dev nD) (q : Fin 4) (k : ℕ) : sProp 𝕄 := iprop(∃ X, owns (d : Thread nD τ) (slotM q (k + 1)) fullShare X)
/-- The six landing slots of a strip. -/
def lands (d : Dev nD) (q : Fin 4) : sProp 𝕄 := bigSep (Finset.range 6) fun k => land (F := F) d q k

/-- What the two signals on `c`'s barrier hand `c`: the right neighbour's (`true`) the landing slots there of the
    clockwise strips, the left neighbour's (`false`) those of the counter-clockwise strips. -/
def barPay (c : Dev nD) (d : Bool) : sProp 𝕄 :=
  if d then iprop(lands (F := F) (nxt c) 0 ∗ lands (F := F) (nxt c) 1) else iprop(lands (F := F) (prv c) 2 ∗ lands (F := F) (prv c) 3)
def sendPay (c : Dev nD) (q : Fin 4) (k : ℕ) : sProp 𝕄 := owns (c : Thread nD τ) (slotM q k) fullShare.left (acc m ρ q k c)
def recvPay (c : Dev nD) (q : Fin 4) (k : ℕ) : sProp 𝕄 := owns (c : Thread nD τ) (slotM q (k + 1)) fullShare (acc m ρ q k (src q c))
def outPay (c : Dev nD) (q j : Fin 4) : sProp 𝕄 :=
  iprop(owns (c : Thread nD τ) (slotM q (3 + j.val)) fullShare.right (acc m ρ q (3 + j.val) c)
    ∗ owns (c : Thread nD τ) (outM (outRow c q j)) fullShare (acc m ρ q (3 + j.val) c))
def woPay (c : Dev nD) : sProp 𝕄 := owns (c : Thread nD τ) wfM fullShare (woRows m c)

def dmaPay (c : Dev nD) (s : ℕ) : sProp 𝕄 :=
  if s = 17 then woPay m c
  else if s < 17 then outPay m ρ c (outStripOf s) (outStepOf s)
  else if (s - 18) % 24 < 12 then sendPay m ρ c (stripOf s) ((s - 18) % 6) else recvPay m ρ c (stripOf s) ((s - 18) % 6)
def dmaAmt (s : ℕ) : ℕ := if s = 17 then NW else if s < 17 then NO else NS

/-- One round: a barrier cell has two duties of one unit each, every DMA cell but the staging one its copy's credit. -/
def ringRd : Rounds.Schedule (GSem nD τ sig) Bool 𝕄 where
  duties g r := if r = 0 ∧ g.1.2 = .tc then
      (match g.2 with
        | .reg s => if s = barS then Finset.univ else ∅
        | .dma s => if s.val = 0 then ∅ else {false})
    else ∅
  unitless _ := False
  amount g _ _ := match g.2 with
    | .reg _ => 1
    | .dma s => dmaAmt s.val
  payload g _ d := match g.2 with
    | .reg _ => barPay g.1.1 d
    | .dma s => dmaPay m ρ g.1.1 s.val
  amount_pos g _ _ _ := by
    rcases g with ⟨t, s | s⟩
    · exact Nat.one_pos
    · show 0 < dmaAmt s.val
      unfold dmaAmt
      split
      · exact NW_pos
      · split
        · exact NO_pos
        · exact NS_pos

instance lands_storable (d : Dev nD) (q : Fin 4) : BI.Storable (upEmb : UEmb _ 𝕄) (lands (F := F) d q) := by
  unfold lands land; infer_instance
instance dmaPay_storable (c : Dev nD) (s : ℕ) : BI.Storable (upEmb : UEmb _ 𝕄) (dmaPay m ρ c s) := by
  unfold dmaPay woPay outPay sendPay recvPay
  (repeat' split) <;> infer_instance
instance ringRd_storable (g : GSem nD τ sig) (r : ℕ) (d : Bool) : BI.Storable (upEmb : UEmb _ 𝕄) ((ringRd (F := F) m ρ).payload g r d) := by
  rcases g with ⟨t, s | s⟩
  · show BI.Storable upEmb (barPay t.1 d)
    unfold barPay; split <;> infer_instance
  · show BI.Storable upEmb (dmaPay m ρ t.1 s.val)
    infer_instance

section Sched
variable (c : Dev nD)

theorem duties_bar : (ringRd (F := F) m ρ).duties (barCell c) 0 = Finset.univ := by
  dsimp only [ringRd]; rw [if_pos ⟨rfl, rfl⟩, if_pos rfl]
theorem duties_dma (s : DmaSem sig) (hs : s.val ≠ 0) : (ringRd (F := F) m ρ).duties (dcell c s) 0 = {false} := by
  dsimp only [ringRd]; rw [if_pos ⟨rfl, rfl⟩, if_neg hs]
theorem duties_later (g : GSem nD τ sig) : ∀ r, 1 ≤ r → (ringRd (F := F) m ρ).duties g r = ∅ :=
  fun r hr => by dsimp only [ringRd]; exact if_neg fun h => by omega

theorem amount_bar (d : Bool) : (ringRd (F := F) m ρ).amount (barCell c) 0 d = 1 := rfl
theorem amount_dma (s : DmaSem sig) (d : Bool) : (ringRd (F := F) m ρ).amount (dcell c s) 0 d = dmaAmt s.val := rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma (s : DmaSem sig) (hs : s.val ≠ 0) : (ringRd (F := F) m ρ).expect (dcell c s) 0 = dmaAmt s.val := by
  unfold Schedule.expect Schedule.amountOf; rw [duties_dma m ρ c s hs, Finset.sum_singleton, amount_dma]

theorem rest_bar : bigSep ((ringRd (F := F) m ρ).duties (barCell c) 0 \ ∅) (fun d => (ringRd (F := F) m ρ).payload (barCell c) 0 d)
    = iprop(barPay c false ∗ barPay c true) := by
  rw [Finset.sdiff_empty, duties_bar, bigSep_univ_eq_bigSepL [false, true] (by decide) (by decide), bigSepL_cons_cons, bigSepL_singleton]
  rfl
theorem rest_dma (s : DmaSem sig) (hs : s.val ≠ 0) :
    bigSep ((ringRd (F := F) m ρ).duties (dcell c s) 0 \ ∅) (fun d => (ringRd (F := F) m ρ).payload (dcell c s) 0 d) = dmaPay m ρ c s.val := by
  rw [Finset.sdiff_empty, duties_dma m ρ c s hs, bigSep_singleton]; rfl

end Sched

/-! The cells of a strip, by the numbers of their semaphores. -/

theorem dq_ne (q : Fin 4) (k : ℕ) (b : Fin 2) : (dq q k b).val ≠ 0 := by simp only [dq]; omega
theorem dout_ne (q j : Fin 4) : (dout q j).val ≠ 0 := by simp only [dout]; omega

theorem dmaAmt_dq (q : Fin 4) (k : ℕ) (b : Fin 2) : dmaAmt (dq q k b).val = NS := by
  unfold dmaAmt dq; dsimp only; rw [if_neg (by omega), if_neg (by omega)]
theorem dmaAmt_dout (q j : Fin 4) : dmaAmt (dout q j).val = NO := by revert q j; intro q j; fin_cases q <;> fin_cases j <;> rfl
theorem dmaAmt_dwo : dmaAmt dwo.val = NW := rfl

theorem pay_send (c : Dev nD) (q : Fin 4) (k : ℕ) (hk : k < 6) : dmaPay m ρ c (dq q k 0).val = sendPay m ρ c q k := by
  obtain ⟨k, rfl⟩ : ∃ j : Fin 6, k = j.val := ⟨⟨k, hk⟩, rfl⟩
  fin_cases q <;> fin_cases k <;> rfl
theorem pay_recv (c : Dev nD) (q : Fin 4) (k : ℕ) (hk : k < 6) : dmaPay m ρ c (dq q k 1).val = recvPay m ρ c q k := by
  obtain ⟨k, rfl⟩ : ∃ j : Fin 6, k = j.val := ⟨⟨k, hk⟩, rfl⟩
  fin_cases q <;> fin_cases k <;> rfl
theorem pay_out (c : Dev nD) (q j : Fin 4) : dmaPay m ρ c (dout q j).val = outPay m ρ c q j := by
  fin_cases q <;> fin_cases j <;> rfl
theorem pay_wo (c : Dev nD) : dmaPay m ρ c dwo.val = woPay m c := rfl

/-! ## What each device owes at launch; the levels -/

/-- What device `c` owes when strip `q` has made `n q` of its six steps: the rest of the receive credits. -/
def owedR (c : Dev nD) (n : Fin 4 → ℕ) : CellTallies nD τ sig Unit :=
  ∑ q : Fin 4, ∑ k ∈ Finset.Ico (n q) 6, tallyAt (recvCell (dst q c) q k) () NS

/-- At launch all of them, and both neighbours' barrier one unit. -/
def O₀ (c : Dev nD) : CellTallies nD τ sig Unit :=
  owedR c (fun _ => 0) + tallyAt (barCell (nxt c)) () 1 + tallyAt (barCell (prv c)) () 1

def L (g : GSem nD τ sig) : Finset Unit := if g.1.2 = .tc then {()} else ∅
/-- Barrier cells at 1, the receive cells of step `k` at `2 + k`, everything else at 0. -/
def lv (g : GSem nD τ sig) (_ : Unit) : ℕ := match g.2 with
  | .reg _ => 1
  | .dma s => if s.val < 18 then 0 else if (s.val - 18) % 24 < 12 then 0 else 2 + (s.val - 18) % 6

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (q : Fin 4) (k : ℕ) (hk : k < 6) : lv (recvCell c q k) () = 2 + k := by
  obtain ⟨k, rfl⟩ : ∃ j : Fin 6, k = j.val := ⟨⟨k, hk⟩, rfl⟩
  fin_cases q <;> fin_cases k <;> rfl
theorem lv_send (c : Dev nD) (q : Fin 4) (k : ℕ) (hk : k < 6) : lv (sendCell c q k) () = 0 := by
  obtain ⟨k, rfl⟩ : ∃ j : Fin 6, k = j.val := ⟨⟨k, hk⟩, rfl⟩
  fin_cases q <;> fin_cases k <;> rfl

theorem owedR_pos {c : Dev nD} {n : Fin 4 → ℕ} {g : GSem nD τ sig} {u : Unit} (h : 0 < owedR c n g u) :
    ∃ q : Fin 4, ∃ k, n q ≤ k ∧ k < 6 ∧ g = recvCell (dst q c) q k := by
  unfold owedR at h
  rw [Finset.sum_apply, Finsupp.finsetSum_apply] at h
  obtain ⟨q, -, hq⟩ := Finset.exists_ne_zero_of_sum_ne_zero (Nat.pos_iff_ne_zero.mp h)
  rw [Finset.sum_apply, Finsupp.finsetSum_apply] at hq
  obtain ⟨k, hk, hqk⟩ := Finset.exists_ne_zero_of_sum_ne_zero hq
  rw [tallyAt_apply] at hqk
  refine ⟨q, k, (Finset.mem_Ico.mp hk).1, (Finset.mem_Ico.mp hk).2, ?_⟩
  by_contra hn
  exact hqk (if_neg fun h' => hn h'.1)

/-- Waiting on a cell of a level below every receive cell the device still owes is allowed. -/
theorem mayWait_owedR (c : Dev nD) (n : Fin 4 → ℕ) (sm : SemLoc sig) (l : ℕ) (hl : lv ((c : Thread nD τ), sm) () = l)
    (hn : ∀ q, l < 2 + n q) : (levAts L lv : sProp 𝕄) ⊢ MayWait (c : Thread nD τ) sm () (owedR c n) :=
  MayOwe.of_cut (L := L) (lev := lv) l (fun p hp => by rw [Finset.mem_singleton.mp hp, L_tc]; exact Finset.mem_singleton_self _)
    (fun g u hg => by
      obtain ⟨q, k, -, -, rfl⟩ := owedR_pos hg
      exact Finset.mem_singleton_self _)
    (fun p hp => by rw [Finset.mem_singleton.mp hp]; exact hl.le)
    (fun g u hg => by
      obtain ⟨q, k, hk, hk6, rfl⟩ := owedR_pos hg
      rw [show u = () from rfl, lv_recv _ q k hk6]
      have := hn q; omega)

/-- A launch pays the next receive credit of its strip. -/
theorem owedR_step (c : Dev nD) (n : Fin 4 → ℕ) (q : Fin 4) (k : ℕ) (hq : n q = k) (hk : k < 6) :
    owedR c n = owedR c (Function.update n q (k + 1)) + tallyAt (recvCell (dst q c) q k) () NS := by
  have h : ∑ q' ∈ Finset.univ.erase q, ∑ k ∈ Finset.Ico (Function.update n q (k + 1) q') 6, tallyAt (recvCell (dst q' c) q' k) () NS
      = ∑ q' ∈ Finset.univ.erase q, ∑ k ∈ Finset.Ico (n q') 6, tallyAt (recvCell (dst q' c) q' k) () NS :=
    Finset.sum_congr rfl fun q' hq' => by rw [Function.update_of_ne (Finset.ne_of_mem_erase hq')]
  unfold owedR
  rw [← Finset.add_sum_erase _ _ (Finset.mem_univ q), ← Finset.add_sum_erase (a := q) _ (fun q' => ∑ k ∈ Finset.Ico (Function.update n q (k + 1) q') 6, _) (Finset.mem_univ q),
    h, Function.update_self, hq, Finset.sum_eq_sum_Ico_succ_bot hk]
  abel

end Cert.AllReduce

end
-- ==== Proof.Steps.lean ====
/- One rule per kind of operation of the all-reduce, each stated once for every strip and every step:
   a launch, a wait, the two loads of a partial product, the addition into a slot, a copy to the result. -/
module

public import proofs.«01_k».proof.Proof.Common

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)

/-! ## The cells' records -/

/-- A device's cells by number: the barrier cell at 0, the DMA cell of its number elsewhere. -/
def csem (i : Fin 66) : SemLoc sig := if i.val = 0 then .reg barS else .dma (i : DmaSem sig)
def kcell (ck : Dev nD × Fin 66) : GSem nD τ sig := ((ck.1 : Thread nD τ), csem ck.2)

theorem kcell_bar (c : Dev nD) : kcell (c, 0) = barCell c := rfl
theorem kcell_dma (c : Dev nD) (s : DmaSem sig) (hs : s.val ≠ 0) : kcell (c, s) = dcell c s := by
  unfold kcell csem; dsimp only; rw [if_neg hs]

/-- Every cell's invariant, under the names `K`, and that every cell has reached round 0. -/
def records (K : Dev nD × Fin 66 → ℕ) : sProp 𝕄 :=
  iprop((bigSep Finset.univ fun ck : Dev nD × Fin 66 => cellInv ER (ringRd m ρ) (K ck) (kcell ck))
    ∗ bigSep Finset.univ fun ck : Dev nD × Fin 66 => reached ER (kcell ck) 0)

instance records_persistent (K : Dev nD × Fin 66 → ℕ) : BI.Persistent (records m ρ K) := by unfold records; infer_instance

theorem rec_bar (K : Dev nD × Fin 66 → ℕ) (c : Dev nD) :
    records m ρ K ⊢ iprop(cellInv ER (ringRd m ρ) (K (c, 0)) (barCell c) ∗ reached ER (barCell c) 0) := by
  unfold records
  rw [← kcell_bar c]
  exact BI.sep_mono (bigSep_elim (Finset.mem_univ ((c, 0) : Dev nD × Fin 66))) (bigSep_elim (Finset.mem_univ ((c, 0) : Dev nD × Fin 66)))
theorem rec_dma (K : Dev nD × Fin 66 → ℕ) (c : Dev nD) (s : DmaSem sig) (hs : s.val ≠ 0) :
    records m ρ K ⊢ iprop(cellInv ER (ringRd m ρ) (K (c, s)) (dcell c s) ∗ reached ER (dcell c s) 0) := by
  unfold records
  rw [← kcell_dma c s hs]
  exact BI.sep_mono (bigSep_elim (Finset.mem_univ ((c, s) : Dev nD × Fin 66))) (bigSep_elim (Finset.mem_univ ((c, s) : Dev nD × Fin 66)))

/-- What the device owes, whatever it has waited for. -/
def Ow (c : Dev nD) (O : CellTallies nD τ sig Unit) : sProp 𝕄 := iprop(∃ W, owes (c : Thread nD τ) O W)

/-! ## A strip's pieces -/

/-- Step `k` of strip `q` still to come on device `c`: the tokens its launch pays with, the slot it lands in, the
    positions and the credit its waits need. -/
def Rs (c : Dev nD) (q : Fin 4) (k : ℕ) : sProp 𝕄 :=
  iprop(dutyTok ER (sendCell c q k) 0 false ∗ dutyTok ER (recvCell (dst q c) q k) 0 false ∗ land (F := F) (dst q c) q k
    ∗ atPos ER (sendCell c q k) 0 ∅ 0 ∗ atPos ER (recvCell c q k) 0 ∅ 0 ∗ cred (tallyAt (recvCell c q k) () NS))
/-- Step `k` launched. -/
def Fly (c : Dev nD) (q : Fin 4) (k : ℕ) : sProp 𝕄 :=
  iprop(atPos ER (sendCell c q k) 0 ∅ 0 ∗ cred (tallyAt (sendCell c q k) () NS)
    ∗ atPos ER (recvCell c q k) 0 ∅ 0 ∗ cred (tallyAt (recvCell c q k) () NS))

abbrev Wp (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-! ## A launch -/

/-- The launch of step `k` of strip `q`. -/
theorem wp_launch (K : Dev nD × Fin 66 → ℕ) (c n : Dev nD) (q : Fin 4) (k : ℕ) (hk : k < 6) (hn : n = dst q c) (nn : Fin 4 → ℕ) (hnn : nn q = k)
    {hsc : (slotM q (k + 1) : Memref sig (Dev.tc n : Thread nD τ).2.kind .vmem S128x1024 .bf16).view.ref.isScScratch = false}
    {hsrc : (slotM q k).view.WordExact} {hdst : (slotM q (k + 1)).view.WordExact}
    {hsem : DmaTarget.Typed .vmem (.dma (dq q k 1)) (.remote (Dev.tc n : Thread nD τ) (slotM q (k + 1)) (.dma (dq q k 0)) hsc)}
    {α : Type} {Q : α → sProp 𝕄} {e : PUnit → Prog (TpuEff nD τ sig (Elt F) Λ₀ .tc) α} :
    iprop(records m ρ K ∗ Ow c (owedR c nn) ∗ Rs c q k ∗ owns (c : Thread nD τ) (slotM q k) fullShare.left (acc m ρ q k c))
      ⊢ iprop(((Ow c (owedR c (Function.update nn q (k + 1))) ∗ Fly c q k) -∗ Wp c (e ⟨⟩) Q)
          -∗ Wp c (.op (.enqueueDma (slotM q k) (.remote (Dev.tc n : Thread nD τ) (slotM q (k + 1)) (.dma (dq q k 0)) hsc) (.dma (dq q k 1)) hsrc hdst hsem) e) Q) := by
  subst hn
  unfold Rs Fly Ow land owns
  iintro ⟨#HR, ⟨%W, HO⟩, ⟨HtS, HtV, ⟨%X, %fd, -, Hd⟩, HaS, HaV, HcV⟩, ⟨%fs, %hfs, Hs⟩⟩ HK
  ihave HRS := (rec_dma m ρ K c (dq q k 0) (dq_ne q k 0)) $$ HR
  icases HRS with ⟨#HIS, #HrS⟩
  ihave HRV := (rec_dma m ρ K (dst q c) (dq q k 1) (dq_ne q k 1)) $$ HR
  icases HRV with ⟨#HIV, #HrV⟩
  iapply (Rounds.wp_send_pointsTo 𝒱₀ ER (ringRd m ρ) (c : Thread nD τ) none (κ₁ := K (c, dq q k 0)) (κ₂ := K (dst q c, dq q k 1))
    (r₁ := 0) (r₂ := 0) (d₁ := false) (d₂ := false) (fs := fs) (fd := fd) (q := fullShare.left)
    (by rw [duties_dma m ρ c _ (dq_ne q k 0)]; exact Finset.mem_singleton_self _)
    (by rw [duties_dma m ρ (dst q c) _ (dq_ne q k 1)]; exact Finset.mem_singleton_self _)
    () () NS (show (slotM q (k + 1)).view.amount (.dma (dq q k 1)) = NS from slot_amt q (k + 1)) ((amount_dma m ρ c _ false).trans (dmaAmt_dq q k 0)) ((amount_dma m ρ (dst q c) _ false).trans (dmaAmt_dq q k 1))
    (owedR c (Function.update nn q (k + 1))) (owedR_step c nn q k hnn hk) (W := W)
    (by
      show _ ⊢ dmaPay m ρ c (dq q k 0).val
      rw [pay_send m ρ c q k hk, sendPay, ← hfs]
      exact owns_intro _ _ _ _)
    (by
      show _ ⊢ dmaPay m ρ (dst q c) (dq q k 1).val
      rw [pay_recv m ρ (dst q c) q k hk, recvPay, src_dst, ← hfs]
      refine (owns_intro (dst q c : Thread nD τ) (slotM q (k + 1)) fullShare _).trans (Entails.of_eq ?_)
      rw [View.read_write_univ])) $$ [HO HtS HtV Hd Hs]
  · isplitr; · iexact HIS
    isplitr; · iexact HIV
    isplitl [Hs]; · iexact Hs
    isplitl [Hd]; · iexact Hd
    isplitl [HO]; · iexact HO
    isplitl [HtS]; · iexact HtS
    isplitr; · iexact HrS
    isplitl [HtV]; · iexact HtV
    iexact HrV
  iintro ⟨HcS, HO⟩
  iapply HK
  isplitl [HO]; · iexists W; iexact HO
  isplitl [HaS]; · iexact HaS
  isplitl [HcS]; · iexact HcS
  isplitl [HaV]; · iexact HaV
  iexact HcV

/-! ## A wait -/

/-- A wait on DMA semaphore `s`, allowed by the levels of what the device still owes: its copy's payload. -/
theorem wp_waitD (K : Dev nD × Fin 66 → ℕ) (c : Dev nD) (s : DmaSem sig) (hs : s.val ≠ 0) (nn : Fin 4 → ℕ) (l : ℕ)
    (hl : lv (dcell c s) () = l) (hn : ∀ q, l < 2 + nn q)
    {sp₁ sp₂ : Space} {s₁ s₂ : Shape} {e₁ e₂ : EltTy} {M₁ : Memref sig .tc sp₁ s₁ e₁} {M₂ : Memref sig .tc sp₂ s₂ e₂}
    {h₁ : M₁.view.WordExact} {h₂ : M₂.view.WordExact} (hN : M₂.view.dmaCredit = dmaAmt s.val)
    {α : Type} {Q : α → sProp 𝕄} {e : PUnit → Prog (TpuEff nD τ sig (Elt F) Λ₀ .tc) α} :
    iprop(records m ρ K ∗ levAts L lv ∗ Ow c (owedR c nn) ∗ atPos ER (dcell c s) 0 ∅ 0 ∗ cred (tallyAt (dcell c s) () (dmaAmt s.val)))
      ⊢ iprop(((Ow c (owedR c nn) ∗ atPos ER (dcell c s) 1 ∅ 0 ∗ dmaPay m ρ c s.val) -∗ Wp c (e ⟨⟩) Q)
          -∗ Wp c (.op (.waitDma2 s M₁ M₂ h₁ h₂) e) Q) := by
  unfold Ow
  iintro ⟨#HR, #Hlev, ⟨%W, HO⟩, Ha, Hc⟩ HK
  ihave HRS := (rec_dma m ρ K c s hs) $$ HR
  icases HRS with ⟨#HI, -⟩
  iapply (Rounds.wp_wait_rest_token 𝒱₀ ER (ringRd m ρ) (c : Thread nD τ) none (κ := K (c, s))
      (wpE_waitDma2_eq 𝒱₀ (c : Thread nD τ) none Set.univ) (Set.mem_univ _) () (O := owedR c nn) (W := W) (R := 0) (m := 0) (T := ∅)
      (by rw [Nat.zero_add, expect_dma m ρ c s hs, ← hN])) $$ [HO Ha Hc]
  · isplitr; · iexact HI
    isplitl [Hc]; · rw [hN]; iexact Hc
    isplitl [HO]; · iexact HO
    isplitr; · iapply (mayWait_owedR c nn (.dma s) l hl hn); iexact Hlev
    iexact Ha
  iintro ⟨HO, Ha, -, Hpay⟩
  ihave Hp := (Entails.of_eq (rest_dma m ρ c s hs)) $$ Hpay
  iapply HK
  isplitl [HO]; · iexists _; iexact HO
  isplitl [Ha]; · iexact Ha
  iexact Hp

/-! ## The copies on one device -/

/-- The copy of slot `3 + j` of strip `q` to its rows of the result, lending the right half of the slot. -/
theorem wp_copyOut (K : Dev nD × Fin 66 → ℕ) (c : Dev nD) (q j : Fin 4) (off : Fin 2 → ℕ) (hoff : off = ![128 * (outRow c q j % 16), 0])
    (inb : ∀ a, off a + S128x1024.size a ≤ S2048x1024.size a)
    {hsrc : (slotM q (3 + j.val)).view.WordExact} {hdst : (oM.slice (Rect.unit (s := S2048x1024) off S128x1024.size inb) (fun _ => rfl)).view.WordExact}
    {hsem : DmaTarget.Typed (nD := nD) (τ := τ) (p := .tc) .vmem (.dma (dout q j)) (.here (oM.slice (Rect.unit (s := S2048x1024) off S128x1024.size inb) (fun _ => rfl)))}
    {α : Type} {Q : α → sProp 𝕄} {e : PUnit → Prog (TpuEff nD τ sig (Elt F) Λ₀ .tc) α} :
    iprop(records m ρ K ∗ dutyTok ER (outCell c q j) 0 false ∗ owns (c : Thread nD τ) (slotM q (3 + j.val)) fullShare.right (acc m ρ q (3 + j.val) c)
        ∗ (∃ X, owns (c : Thread nD τ) (outM (outRow c q j)) fullShare X))
      ⊢ iprop((cred (tallyAt (outCell c q j) () NO) -∗ Wp c (e ⟨⟩) Q)
          -∗ Wp c (.op (.enqueueDma (slotM q (3 + j.val)) (.here (oM.slice (Rect.unit (s := S2048x1024) off S128x1024.size inb) (fun _ => rfl))) (.dma (dout q j)) hsrc hdst hsem) e) Q) := by
  subst hoff
  unfold owns
  iintro ⟨#HR, Ht, ⟨%fs, %hfs, Hs⟩, ⟨%X, %fd, -, Hd⟩⟩ HK
  ihave HRS := (rec_dma m ρ K c (dout q j) (dout_ne q j)) $$ HR
  icases HRS with ⟨#HI, #Hr⟩
  iapply (Rounds.wp_copy_pointsTo 𝒱₀ ER (ringRd m ρ) (c : Thread nD τ) none (κ := K (c, dout q j)) (r := 0) (d := false) (fs := fs) (fd := fd)
    (src := slotM q (3 + j.val)) (dst := outM (outRow c q j)) (sem := .dma (dout q j)) (q := fullShare.right)
    (by rw [duties_dma m ρ c _ (dout_ne q j)]; exact Finset.mem_singleton_self _)
    () NO (show (outM (outRow c q j)).view.amount (.dma (dout q j)) = NO from out_amt _) ((amount_dma m ρ c _ false).trans (dmaAmt_dout q j))
    (by
      show _ ⊢ dmaPay m ρ c (dout q j).val
      rw [pay_out m ρ c q j, outPay, ← hfs]
      iintro ⟨Hd, Hs⟩
      isplitl [Hs]
      · iapply (owns_intro (c : Thread nD τ) (slotM q (3 + j.val)) fullShare.right fs); iexact Hs
      · iapply ((owns_intro (c : Thread nD τ) (outM (outRow c q j)) fullShare
          ((outM (outRow c q j)).view.write (Elt F) fd ((slotM q (3 + j.val)).view.read (Elt F) fs) Finset.univ)).trans
            (Entails.of_eq (by rw [View.read_write_univ])))
        iexact Hd)) $$ [Ht Hs Hd]
  · isplitr; · iexact HI
    isplitl [Hs]; · iexact Hs
    isplitl [Hd]; · iexact Hd
    isplitl [Ht]; · iexact Ht
    iexact Hr
  iintro Hc
  iapply HK; iexact Hc

/-- The copy of the device's rows of `Wo` into the scratch buffer. -/
theorem wp_copyWo (K : Dev nD × Fin 66 → ℕ) (c : Dev nD) {hsrc : (woM c).view.WordExact} {hdst : wfM.view.WordExact}
    {hsem : DmaTarget.Typed (nD := nD) (τ := τ) (p := .tc) .hbm (.dma dwo) (.here wfM)}
    {α : Type} {Q : α → sProp 𝕄} {e : PUnit → Prog (TpuEff nD τ sig (Elt F) Λ₀ .tc) α} (q : PosShare TreeShare) :
    iprop(records m ρ K ∗ dutyTok ER (dcell c dwo) 0 false ∗ (((c : Thread nD τ).loc main_arg1) ↦{q} m ((c : Thread nD τ).loc main_arg1))
        ∗ (∃ f, ((c : Thread nD τ).loc cc0_scratch0) ↦{fullShare} f))
      ⊢ iprop((cred (tallyAt (dcell c dwo) () NW) -∗ Wp c (e ⟨⟩) Q)
          -∗ Wp c (.op (.enqueueDma (woM c) (.here wfM) (.dma dwo) hsrc hdst hsem) e) Q) := by
  iintro ⟨#HR, Ht, Hs, ⟨%fd, Hd⟩⟩ HK
  ihave HRS := (rec_dma m ρ K c dwo (by decide)) $$ HR
  icases HRS with ⟨#HI, #Hr⟩
  ihave Hs2 := (pointsTo_split_subset (Finset.subset_univ (woM c).view.set)) $$ Hs
  icases Hs2 with ⟨Hs, -⟩
  iapply (Rounds.wp_copy_pointsTo 𝒱₀ ER (ringRd m ρ) (c : Thread nD τ) none (κ := K (c, dwo)) (r := 0) (d := false)
    (fs := m ((c : Thread nD τ).loc main_arg1)) (fd := fd)
    (src := woM c) (dst := wfM) (sem := .dma dwo) (q := q)
    (by rw [duties_dma m ρ c _ (by decide)]; exact Finset.mem_singleton_self _)
    () NW (show wfM.view.amount (.dma dwo) = NW from rfl) ((amount_dma m ρ c _ false).trans dmaAmt_dwo)
    (by
      show _ ⊢ dmaPay m ρ c dwo.val
      rw [pay_wo m ρ c, woPay]
      iintro ⟨Hd, -⟩
      iapply ((owns_intro (c : Thread nD τ) wfM fullShare
        (wfM.view.write (Elt F) fd ((woM c).view.read (Elt F) (m ((c : Thread nD τ).loc main_arg1))) Finset.univ)).trans
          (Entails.of_eq (by rw [View.read_write_univ]; rfl)))
      iexact Hd)) $$ [Ht Hs Hd]
  · isplitr; · iexact HI
    isplitl [Hs]; · iexact Hs
    isplitl [Hd]; · rw [View.set_whole]; iexact Hd
    isplitl [Ht]; · iexact Ht
    iexact Hr
  iintro Hc
  iapply HK; iexact Hc

/-! ## Loads and stores -/

/-- The device's block of the context and its rounded rows of `Wo`, which the body reads throughout. -/
def Ins (c : Dev nD) : sProp 𝕄 :=
  iprop((((c : Thread nD τ).loc cc0_stg0_0) ↦{fullShare} xstg m ρ c) ∗ (((c : Thread nD τ).loc cc0_scratch1) ↦{fullShare} wob m c))

theorem zero2 : (![0, 0] : Fin 2 → Nat) = fun _ => 0 := funext fun a => by fin_cases a <;> rfl

abbrev wholeR : Rect S1024x1024 := Rect.unit (s := S1024x1024) ![0, 0] S1024x1024.size inb_S1024x1024_S1024x1024_0_0

/-- The two loads a partial product is computed from. -/
theorem wp_loads (c : Dev nD) (n : ℕ) (off : Fin 2 → ℕ) (hoff : off = ![128 * (n % 16), 0]) (inb : ∀ a, off a + S128x1024.size a ≤ S2048x1024.size a)
    {hl : xM.view.LoadsAt (Rect.unit (s := S2048x1024) off S128x1024.size inb).toLoadRect} {hl' : wbM.view.LoadsAt wholeR.toLoadRect}
    {α : Type} {Q : α → sProp 𝕄} {e : Vec F S128x1024 .bf16 → Vec F S1024x1024 .bf16 → Prog (TpuEff nD τ sig (Elt F) Λ₀ .tc) α} :
    Ins m ρ c ⊢ iprop((Ins m ρ c -∗ Wp c (e (xrow m ρ c n) (wob m c)) Q)
        -∗ Wp c (.op (.load xM (Rect.unit (s := S2048x1024) off S128x1024.size inb).toLoadRect hl) fun v => .op (.load wbM wholeR.toLoadRect hl') fun w => e v w) Q) := by
  subst hoff
  unfold Ins
  iintro ⟨Hx, Hw⟩ HK
  iapply (wp_load 𝒱₀ (c : Thread nD τ) none Set.univ (m := xM) (Finset.subset_univ _)) $$ Hx; iintro Hx
  iapply (wp_load 𝒱₀ (c : Thread nD τ) none Set.univ (m := wbM) (Finset.subset_univ _)) $$ Hw; iintro Hw
  rw [show (wbM).view.readAt (Elt F) wholeR.toLoadRect (wob m c) = wob m c from Memref.readAt_unit_zero (Elt F) cc0_scratch1 zero2 _ _]
  iapply HK
  isplitl [Hx]; · iexact Hx
  iexact Hw

theorem slot_set (q : Fin 4) (s : ℕ) : (slotM q s).view.set = (cM.access (slotR q s)).set := View.set_reshape _ _

/-- What a slot reads after a block is stored at its rectangle. -/
theorem slot_write (q : Fin 4) (s : ℕ) (f : (cM).view.ty.Contents (Elt F)) (Y : FVec F S128x1024 .bf16) :
    (slotM q s).view.read (Elt F) ((cM.access (slotR q s)).write (Elt F) f (shapeCast S1x128x1024 Y shapeCasts_S128x1024_S1x128x1024) Finset.univ) = Y := by
  have h : (slotM q s).view.read (Elt F) ((cM.access (slotR q s)).write (Elt F) f (shapeCast S1x128x1024 Y shapeCasts_S128x1024_S1x128x1024) Finset.univ)
      = shapeCast S128x1024 ((cM.access (slotR q s)).read (Elt F) ((cM.access (slotR q s)).write (Elt F) f (shapeCast S1x128x1024 Y shapeCasts_S128x1024_S1x128x1024) Finset.univ))
          shapeCasts_S1x128x1024_S128x1024 := rfl
  rw [h, View.read_write_univ]
  exact shapeCast_shapeCast _ _ _

theorem slot_read (q : Fin 4) (s : ℕ) (f : (cM).view.ty.Contents (Elt F)) :
    (slotM q s).view.read (Elt F) f = shapeCast S128x1024 (cM.view.readAt (Elt F) (slotR q s).toLoadRect f) shapeCasts_S1x128x1024_S128x1024 := rfl

/-- A block stored into a slot, after a load of the slot that reads nothing of use. -/
theorem wp_put (c : Dev nD) (q : Fin 4) (s : ℕ) (Y : FVec F S128x1024 .bf16) {hl : cM.view.LoadsAt (slotR q s).toLoadRect}
    {w : FVec F S1x128x1024 .bf16} (hw : w = shapeCast S1x128x1024 Y shapeCasts_S128x1024_S1x128x1024)
    {hx : (cM.access (slotR q s)).Stores Finset.univ} {hm : Finset.univ = Finset.univ ∨ ∀ a, (slotR q s).stride a = 1}
    {α : Type} {Q : α → sProp 𝕄} {e : PUnit → Prog (TpuEff nD τ sig (Elt F) Λ₀ .tc) α} :
    (∃ X, owns (c : Thread nD τ) (slotM q s) fullShare X)
      ⊢ (iprop((owns (c : Thread nD τ) (slotM q s) fullShare Y -∗ Wp c (e ⟨⟩) Q)
        -∗ Wp c (.op (.load cM (slotR q s).toLoadRect hl) fun _ => .op (.store cM (slotR q s) w Finset.univ hx hm) e) Q) : sProp 𝕄) := by
  subst hw
  unfold owns
  iintro ⟨%X, %f, -, H⟩ HK
  iapply (wp_load 𝒱₀ (c : Thread nD τ) none Set.univ (m := cM) (S := (slotM q s).view.set) (by
    rw [slot_set]; exact Memref.setOn_subset_of_access_subset (c := (c : Thread nD τ)) (Finset.Subset.refl _))) $$ H
  iintro H
  iapply (wp_store 𝒱₀ (c : Thread nD τ) none Set.univ (m := cM) (r := slotR q s) (Mk := Finset.univ) (S := (slotM q s).view.set) (by
    rw [slot_set]; exact Finset.Subset.refl _)) $$ H
  iintro H
  iapply HK
  iexists _
  isplitr; · ipureintro; exact slot_write q s f Y
  iexact H

/-- A partial product added into a slot. -/
theorem wp_add (c : Dev nD) (q : Fin 4) (s : ℕ) (X p : FVec F S128x1024 .bf16) {hl hl' : cM.view.LoadsAt (slotR q s).toLoadRect}
    {hx : (cM.access (slotR q s)).Stores Finset.univ} {hm : Finset.univ = Finset.univ ∨ ∀ a, (slotR q s).stride a = 1}
    {α : Type} {Q : α → sProp 𝕄} {e : PUnit → Prog (TpuEff nD τ sig (Elt F) Λ₀ .tc) α} :
    owns (c : Thread nD τ) (slotM q s) fullShare X
      ⊢ (iprop((owns (c : Thread nD τ) (slotM q s) fullShare (addf X p) -∗ Wp c (e ⟨⟩) Q)
        -∗ Wp c (.op (.load cM (slotR q s).toLoadRect hl) fun u => .op (.load cM (slotR q s).toLoadRect hl') fun _ =>
            .op (.store cM (slotR q s) (k0_pay11 p u) Finset.univ hx hm) e) Q) : sProp 𝕄) := by
  iintro H HK
  ihave H' := (show owns (c : Thread nD τ) (slotM q s) fullShare X ⊢ iprop(∃ f, ⌜(slotM q s).view.read (Elt F) f = X⌝ ∗ ((slotM q s).view.loc (c : Thread nD τ) ↦[(slotM q s).view.set]{fullShare} f)) from .rfl) $$ H
  icases H' with ⟨%f, %hf, H⟩
  subst hf
  iapply (wp_load 𝒱₀ (c : Thread nD τ) none Set.univ (m := cM) (S := (slotM q s).view.set) (by
    rw [slot_set]; exact Memref.setOn_subset_of_access_subset (c := (c : Thread nD τ)) (Finset.Subset.refl _))) $$ H
  iintro H
  iapply (wp_put c q s (addf ((slotM q s).view.read (Elt F) f) p) rfl) $$ [H]
  · iexists _; iapply (owns_intro (c : Thread nD τ) (slotM q s) fullShare f); iexact H
  iexact HK

end Cert.AllReduce

end
-- ==== Proof.Strips.lean ====
/- The steps of a strip, and of a wave of two strips, each stated once for every strip and step. -/

module

public import proofs.«01_k».proof.Proof.Steps
public import Idealize.SL.BI.BigOpNat

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## A strip's state -/

/-- The right half of a slot the copies to the result do not read (the first three), -/
def Rt (c : Dev nD) (q : Fin 4) (j : ℕ) : sProp 𝕄 :=
  if j < 3 then owns (c : Thread nD τ) (slotM q j) fullShare.right (acc m ρ q j c) else iprop(emp)
/-- and of one they do. -/
def Rx (c : Dev nD) (q : Fin 4) (j : ℕ) : sProp 𝕄 :=
  if j < 3 then iprop(emp) else owns (c : Thread nD τ) (slotM q j) fullShare.right (acc m ρ q j c)

/-- Step `j` done: both cells at their next round, the slot sent from back. -/
def Dn (c : Dev nD) (q : Fin 4) (j : ℕ) : sProp 𝕄 :=
  iprop(atPos ER (sendCell c q j) 1 ∅ 0 ∗ atPos ER (recvCell c q j) 1 ∅ 0
    ∗ owns (c : Thread nD τ) (slotM q j) fullShare.left (acc m ρ q j c) ∗ Rt m ρ c q j)

/-- The first `k` steps done, step `k` launched, the rest to come. -/
def Strip (c : Dev nD) (q : Fin 4) (k : ℕ) : sProp 𝕄 :=
  iprop(bigSep (Finset.range k) (Dn m ρ c q) ∗ Fly c q k ∗ Rt m ρ c q k ∗ bigSep (Finset.Ico (k + 1) 6) (Rs (F := F) c q))
/-- The first `k` steps done, the rest to come, none in flight. -/
def Mid (c : Dev nD) (q : Fin 4) (k : ℕ) : sProp 𝕄 :=
  iprop(bigSep (Finset.range k) (Dn m ρ c q) ∗ bigSep (Finset.Ico k 6) (Rs (F := F) c q))

theorem halves (c : Dev nD) (q : Fin 4) (k : ℕ) (X : FVec F S128x1024 .bf16) (hX : X = acc m ρ q k c) :
    (owns (c : Thread nD τ) (slotM q k) fullShare X : sProp 𝕄)
      ⊢ iprop(owns (c : Thread nD τ) (slotM q k) fullShare.left (acc m ρ q k c) ∗ Rt m ρ c q k ∗ Rx m ρ c q k) := by
  subst hX
  unfold Rt Rx
  iintro H
  ihave H := (owns_halves (c : Thread nD τ) (slotM q k) fullShare (acc m ρ q k c)).1 $$ H
  icases H with ⟨Hl, Hr⟩
  isplitl [Hl]; · iexact Hl
  split
  · isplitl; · iexact Hr
    iempintro
  · isplitr; · iempintro
    iexact Hr

/-! ## One strip -/

/-- The two waits that end step `k`: the slot sent from is back, what the device before sent is in the next slot. -/
theorem strip_waits (K : Dev nD × Fin 66 → ℕ) (c : Dev nD) (q : Fin 4) (k : ℕ) (hk : k < 6) (nn : Fin 4 → ℕ) (hnn : ∀ r, k + 1 ≤ nn r)
    {h₁ : (slotM q (k + 1)).view.WordExact} {h₂ : (slotM q k).view.WordExact} {h₃ : (slotM q k).view.WordExact} {h₄ : (slotM q (k + 1)).view.WordExact}
    {α : Type} {Q : α → sProp 𝕄} {e : PUnit → Prog (TpuEff nD τ sig (Elt F) Λ₀ .tc) α} :
    iprop(records m ρ K ∗ levAts L lv ∗ Ow c (owedR c nn) ∗ Strip m ρ c q k)
      ⊢ iprop(((Ow c (owedR c nn) ∗ Mid m ρ c q (k + 1) ∗ owns (c : Thread nD τ) (slotM q (k + 1)) fullShare (acc m ρ q k (src q c))) -∗ Wp c (e ⟨⟩) Q)
          -∗ Wp c (.op (.waitDma2 (dq q k 0) (slotM q (k + 1)) (slotM q k) h₁ h₂) fun _ =>
              .op (.waitDma2 (dq q k 1) (slotM q k) (slotM q (k + 1)) h₃ h₄) e) Q) := by
  unfold Strip Fly Mid
  iintro ⟨#HR, #Hlev, HO, HD, ⟨HaS, HcS, HaV, HcV⟩, HRt, HRs⟩ HK
  iapply (wp_waitD m ρ K c (dq q k 0) (dq_ne q k 0) nn 0 (lv_send c q k hk) (fun r => by have := hnn r; omega)
    ((slot_amt q k).trans (dmaAmt_dq q k 0).symm)) $$ [HO HaS HcS]
  · isplitr; · iexact HR
    isplitr; · iexact Hlev
    isplitl [HO]; · iexact HO
    isplitl [HaS]; · iexact HaS
    rw [dmaAmt_dq]; iexact HcS
  iintro ⟨HO, HaS, HpS⟩
  iapply (wp_waitD m ρ K c (dq q k 1) (dq_ne q k 1) nn (2 + k) (lv_recv c q k hk) (fun r => by have := hnn r; omega)
    ((slot_amt q (k + 1)).trans (dmaAmt_dq q k 1).symm)) $$ [HO HaV HcV]
  · isplitr; · iexact HR
    isplitr; · iexact Hlev
    isplitl [HO]; · iexact HO
    isplitl [HaV]; · iexact HaV
    rw [dmaAmt_dq]; iexact HcV
  iintro ⟨HO, HaV, HpV⟩
  ihave HpS := (Entails.of_eq (pay_send m ρ c q k hk)) $$ HpS
  ihave HpV := (Entails.of_eq (pay_recv m ρ c q k hk)) $$ HpV
  unfold sendPay recvPay
  iapply HK
  isplitl [HO]; · iexact HO
  isplitr [HpV]
  · isplitr [HRs]
    · rw [bigSep_range_succ]
      isplitr [HD]
      · unfold Dn
        isplitl [HaS]; · iexact HaS
        isplitl [HaV]; · iexact HaV
        isplitl [HpS]; · iexact HpS
        iexact HRt
      · iexact HD
    · iexact HRs
  · iexact HpV

/-- The launch of step `k`. -/
theorem strip_launch (K : Dev nD × Fin 66 → ℕ) (c n : Dev nD) (q : Fin 4) (k : ℕ) (hk : k < 6) (hn : n = dst q c) (nn : Fin 4 → ℕ) (hnn : nn q = k)
    (X : FVec F S128x1024 .bf16) (hX : X = acc m ρ q k c)
    {hsc : (slotM q (k + 1) : Memref sig (Dev.tc n : Thread nD τ).2.kind .vmem S128x1024 .bf16).view.ref.isScScratch = false}
    {hsrc : (slotM q k).view.WordExact} {hdst : (slotM q (k + 1)).view.WordExact}
    {hsem : DmaTarget.Typed .vmem (.dma (dq q k 1)) (.remote (Dev.tc n : Thread nD τ) (slotM q (k + 1)) (.dma (dq q k 0)) hsc)}
    {α : Type} {Q : α → sProp 𝕄} {e : PUnit → Prog (TpuEff nD τ sig (Elt F) Λ₀ .tc) α} :
    iprop(records m ρ K ∗ Ow c (owedR c nn) ∗ Mid m ρ c q k ∗ owns (c : Thread nD τ) (slotM q k) fullShare X)
      ⊢ iprop(((Ow c (owedR c (Function.update nn q (k + 1))) ∗ Strip m ρ c q k ∗ Rx m ρ c q k) -∗ Wp c (e ⟨⟩) Q)
          -∗ Wp c (.op (.enqueueDma (slotM q k) (.remote (Dev.tc n : Thread nD τ) (slotM q (k + 1)) (.dma (dq q k 0)) hsc) (.dma (dq q k 1)) hsrc hdst hsem) e) Q) := by
  unfold Strip Mid
  iintro ⟨#HR, HO, ⟨HD, HRs⟩, Hs⟩ HK
  ihave Hs := (halves m ρ c q k X hX) $$ Hs
  icases Hs with ⟨Hl, HRt, HRx⟩
  ihave HRs := (Entails.of_eq (bigSep_Ico_succ_bot hk (Rs (F := F) c q))) $$ HRs
  icases HRs with ⟨HRk, HRs⟩
  iapply (wp_launch m ρ K c n q k hk hn nn hnn) $$ [HO HRk Hl]
  · isplitr; · iexact HR
    isplitl [HO]; · iexact HO
    isplitl [HRk]; · iexact HRk
    iexact Hl
  iintro ⟨HO, HF⟩
  iapply HK
  isplitl [HO]; · iexact HO
  isplitr [HRx]
  · isplitl [HD]; · iexact HD
    isplitl [HF]; · iexact HF
    isplitl [HRt]; · iexact HRt
    iexact HRs
  · iexact HRx

/-! ## A wave: a clockwise and a counter-clockwise strip -/

/-- The slots of the two strips of a wave that a step fills, whatever it put there. -/
abbrev Both (c : Dev nD) (q q' : Fin 4) (k : ℕ) : sProp 𝕄 :=
  iprop(owns (c : Thread nD τ) (slotM q (k + 1)) fullShare (acc m ρ q k (src q c)) ∗ owns (c : Thread nD τ) (slotM q' (k + 1)) fullShare (acc m ρ q' k (src q' c)))

/-- The four waits of a wave's step. -/
theorem wave_waits (K : Dev nD × Fin 66 → ℕ) (c : Dev nD) (q q' : Fin 4) (k : ℕ) (hk : k < 6) (nn : Fin 4 → ℕ) (hnn : ∀ r, k + 1 ≤ nn r)
    {h₁ : (slotM q (k + 1)).view.WordExact} {h₂ : (slotM q k).view.WordExact} {h₃ : (slotM q k).view.WordExact} {h₄ : (slotM q (k + 1)).view.WordExact}
    {h₁' : (slotM q' (k + 1)).view.WordExact} {h₂' : (slotM q' k).view.WordExact} {h₃' : (slotM q' k).view.WordExact} {h₄' : (slotM q' (k + 1)).view.WordExact}
    {α : Type} {Q : α → sProp 𝕄} {e : PUnit → Prog (TpuEff nD τ sig (Elt F) Λ₀ .tc) α} :
    iprop(records m ρ K ∗ levAts L lv ∗ Ow c (owedR c nn) ∗ Strip m ρ c q k ∗ Strip m ρ c q' k)
      ⊢ iprop(((Ow c (owedR c nn) ∗ Mid m ρ c q (k + 1) ∗ Mid m ρ c q' (k + 1) ∗ Both m ρ c q q' k) -∗ Wp c (e ⟨⟩) Q)
          -∗ Wp c (.op (.waitDma2 (dq q k 0) (slotM q (k + 1)) (slotM q k) h₁ h₂) fun _ =>
              .op (.waitDma2 (dq q k 1) (slotM q k) (slotM q (k + 1)) h₃ h₄) fun _ =>
              .op (.waitDma2 (dq q' k 0) (slotM q' (k + 1)) (slotM q' k) h₁' h₂') fun _ =>
              .op (.waitDma2 (dq q' k 1) (slotM q' k) (slotM q' (k + 1)) h₃' h₄') e) Q) := by
  iintro ⟨#HR, #Hlev, HO, HS, HS'⟩ HK
  iapply (strip_waits m ρ K c q k hk nn hnn) $$ [HO HS]
  · isplitr; · iexact HR
    isplitr; · iexact Hlev
    isplitl [HO]; · iexact HO
    iexact HS
  iintro ⟨HO, HM, Ho⟩
  iapply (strip_waits m ρ K c q' k hk nn hnn) $$ [HO HS']
  · isplitr; · iexact HR
    isplitr; · iexact Hlev
    isplitl [HO]; · iexact HO
    iexact HS'
  iintro ⟨HO, HM', Ho'⟩
  iapply HK
  isplitl [HO]; · iexact HO
  isplitl [HM]; · iexact HM
  isplitl [HM']; · iexact HM'
  isplitl [Ho]; · iexact Ho
  iexact Ho'

/-- The two launches of a wave's step. -/
theorem wave_launch (K : Dev nD × Fin 66 → ℕ) (c n n' : Dev nD) (q q' : Fin 4) (hqq : q' ≠ q) (k : ℕ) (hk : k < 6) (hn : n = dst q c) (hn' : n' = dst q' c)
    (nn nn' : Fin 4 → ℕ) (hnn : nn q = k) (hnn' : nn q' = k) (hnew : nn' = Function.update (Function.update nn q (k + 1)) q' (k + 1))
    (X X' : FVec F S128x1024 .bf16) (hX : X = acc m ρ q k c) (hX' : X' = acc m ρ q' k c)
    {hsc : (slotM q (k + 1) : Memref sig (Dev.tc n : Thread nD τ).2.kind .vmem S128x1024 .bf16).view.ref.isScScratch = false}
    {hsrc : (slotM q k).view.WordExact} {hdst : (slotM q (k + 1)).view.WordExact}
    {hsem : DmaTarget.Typed .vmem (.dma (dq q k 1)) (.remote (Dev.tc n : Thread nD τ) (slotM q (k + 1)) (.dma (dq q k 0)) hsc)}
    {hsc' : (slotM q' (k + 1) : Memref sig (Dev.tc n' : Thread nD τ).2.kind .vmem S128x1024 .bf16).view.ref.isScScratch = false}
    {hsrc' : (slotM q' k).view.WordExact} {hdst' : (slotM q' (k + 1)).view.WordExact}
    {hsem' : DmaTarget.Typed .vmem (.dma (dq q' k 1)) (.remote (Dev.tc n' : Thread nD τ) (slotM q' (k + 1)) (.dma (dq q' k 0)) hsc')}
    {α : Type} {Q : α → sProp 𝕄} {e : PUnit → Prog (TpuEff nD τ sig (Elt F) Λ₀ .tc) α} :
    iprop(records m ρ K ∗ Ow c (owedR c nn) ∗ Mid m ρ c q k ∗ Mid m ρ c q' k
        ∗ owns (c : Thread nD τ) (slotM q k) fullShare X ∗ owns (c : Thread nD τ) (slotM q' k) fullShare X')
      ⊢ iprop(((Ow c (owedR c nn') ∗ Strip m ρ c q k ∗ Strip m ρ c q' k ∗ Rx m ρ c q k ∗ Rx m ρ c q' k) -∗ Wp c (e ⟨⟩) Q)
          -∗ Wp c (.op (.enqueueDma (slotM q k) (.remote (Dev.tc n : Thread nD τ) (slotM q (k + 1)) (.dma (dq q k 0)) hsc) (.dma (dq q k 1)) hsrc hdst hsem) fun _ =>
              .op (.enqueueDma (slotM q' k) (.remote (Dev.tc n' : Thread nD τ) (slotM q' (k + 1)) (.dma (dq q' k 0)) hsc') (.dma (dq q' k 1)) hsrc' hdst' hsem') e) Q) := by
  subst hnew
  iintro ⟨#HR, HO, HM, HM', Ho, Ho'⟩ HK
  iapply (strip_launch m ρ K c n q k hk hn nn hnn X hX) $$ [HO HM Ho]
  · isplitr; · iexact HR
    isplitl [HO]; · iexact HO
    isplitl [HM]; · iexact HM
    iexact Ho
  iintro ⟨HO, HS, HX⟩
  iapply (strip_launch m ρ K c n' q' k hk hn' (Function.update nn q (k + 1)) (by rw [Function.update_of_ne hqq]; exact hnn') X' hX') $$ [HO HM' Ho']
  · isplitr; · iexact HR
    isplitl [HO]; · iexact HO
    isplitl [HM']; · iexact HM'
    iexact Ho'
  iintro ⟨HO, HS', HX'⟩
  iapply HK
  isplitl [HO]; · iexact HO
  isplitl [HS]; · iexact HS
  isplitl [HS']; · iexact HS'
  isplitl [HX]; · iexact HX
  iexact HX'

/-- A step of a wave in the first half: the partial products of the next chunks, the four waits, the additions, the
    next launches. -/
theorem round_add (K : Dev nD × Fin 66 → ℕ) (c n n' : Dev nD) (q q' : Fin 4) (hqq : q' ≠ q) (k : ℕ) (hk : k < 3) (hn : n = dst q c) (hn' : n' = dst q' c)
    (nn nn' : Fin 4 → ℕ) (hnn : ∀ r, k + 1 ≤ nn r) (hq : nn q = k + 1) (hq' : nn q' = k + 1)
    (hnew : nn' = Function.update (Function.update nn q (k + 2)) q' (k + 2))
    (off off' : Fin 2 → ℕ) (hoff : off = ![128 * ((4 * chunkAt q k c + q.val) % 16), 0]) (hoff' : off' = ![128 * ((4 * chunkAt q' k c + q'.val) % 16), 0])
    (inb : ∀ a, off a + S128x1024.size a ≤ S2048x1024.size a) (inb' : ∀ a, off' a + S128x1024.size a ≤ S2048x1024.size a)
    {hl₁ : xM.view.LoadsAt (Rect.unit (s := S2048x1024) off S128x1024.size inb).toLoadRect} {hl₂ : wbM.view.LoadsAt wholeR.toLoadRect}
    {hl₃ : xM.view.LoadsAt (Rect.unit (s := S2048x1024) off' S128x1024.size inb').toLoadRect} {hl₄ : wbM.view.LoadsAt wholeR.toLoadRect}
    {h₁ : (slotM q (k + 1)).view.WordExact} {h₂ : (slotM q k).view.WordExact} {h₃ : (slotM q k).view.WordExact} {h₄ : (slotM q (k + 1)).view.WordExact}
    {h₁' : (slotM q' (k + 1)).view.WordExact} {h₂' : (slotM q' k).view.WordExact} {h₃' : (slotM q' k).view.WordExact} {h₄' : (slotM q' (k + 1)).view.WordExact}
    {hl hl' : cM.view.LoadsAt (slotR q (k + 1)).toLoadRect} {hx : (cM.access (slotR q (k + 1))).Stores Finset.univ}
    {hm : Finset.univ = Finset.univ ∨ ∀ a, (slotR q (k + 1)).stride a = 1}
    {gl gl' : cM.view.LoadsAt (slotR q' (k + 1)).toLoadRect} {gx : (cM.access (slotR q' (k + 1))).Stores Finset.univ}
    {gm : Finset.univ = Finset.univ ∨ ∀ a, (slotR q' (k + 1)).stride a = 1}
    {hsc : (slotM q (k + 1 + 1) : Memref sig (Dev.tc n : Thread nD τ).2.kind .vmem S128x1024 .bf16).view.ref.isScScratch = false}
    {hsrc : (slotM q (k + 1)).view.WordExact} {hdst : (slotM q (k + 1 + 1)).view.WordExact}
    {hsem : DmaTarget.Typed .vmem (.dma (dq q (k + 1) 1)) (.remote (Dev.tc n : Thread nD τ) (slotM q (k + 1 + 1)) (.dma (dq q (k + 1) 0)) hsc)}
    {hsc' : (slotM q' (k + 1 + 1) : Memref sig (Dev.tc n' : Thread nD τ).2.kind .vmem S128x1024 .bf16).view.ref.isScScratch = false}
    {hsrc' : (slotM q' (k + 1)).view.WordExact} {hdst' : (slotM q' (k + 1 + 1)).view.WordExact}
    {hsem' : DmaTarget.Typed .vmem (.dma (dq q' (k + 1) 1)) (.remote (Dev.tc n' : Thread nD τ) (slotM q' (k + 1 + 1)) (.dma (dq q' (k + 1) 0)) hsc')}
    {α : Type} {Q : α → sProp 𝕄} {e : PUnit → Prog (TpuEff nD τ sig (Elt F) Λ₀ .tc) α} :
    iprop(records m ρ K ∗ levAts L lv ∗ Ow c (owedR c nn) ∗ Ins m ρ c ∗ Strip m ρ c q k ∗ Strip m ρ c q' k)
      ⊢ iprop(((Ow c (owedR c nn') ∗ Ins m ρ c ∗ Strip m ρ c q (k + 1) ∗ Strip m ρ c q' (k + 1) ∗ Rx m ρ c q (k + 1) ∗ Rx m ρ c q' (k + 1)) -∗ Wp c (e ⟨⟩) Q)
          -∗ Wp c (.op (.load xM (Rect.unit (s := S2048x1024) off S128x1024.size inb).toLoadRect hl₁) fun v => .op (.load wbM wholeR.toLoadRect hl₂) fun w =>
              .op (.load xM (Rect.unit (s := S2048x1024) off' S128x1024.size inb').toLoadRect hl₃) fun v' => .op (.load wbM wholeR.toLoadRect hl₄) fun w' =>
              .op (.waitDma2 (dq q k 0) (slotM q (k + 1)) (slotM q k) h₁ h₂) fun _ =>
              .op (.waitDma2 (dq q k 1) (slotM q k) (slotM q (k + 1)) h₃ h₄) fun _ =>
              .op (.waitDma2 (dq q' k 0) (slotM q' (k + 1)) (slotM q' k) h₁' h₂') fun _ =>
              .op (.waitDma2 (dq q' k 1) (slotM q' k) (slotM q' (k + 1)) h₃' h₄') fun _ =>
              .op (.load cM (slotR q (k + 1)).toLoadRect hl) fun u => .op (.load cM (slotR q (k + 1)).toLoadRect hl') fun _ =>
              .op (.store cM (slotR q (k + 1)) (k0_pay11 (k0_pay3 v w) u) Finset.univ hx hm) fun _ =>
              .op (.load cM (slotR q' (k + 1)).toLoadRect gl) fun u' => .op (.load cM (slotR q' (k + 1)).toLoadRect gl') fun _ =>
              .op (.store cM (slotR q' (k + 1)) (k0_pay11 (k0_pay3 v' w') u') Finset.univ gx gm) fun _ =>
              .op (.enqueueDma (slotM q (k + 1)) (.remote (Dev.tc n : Thread nD τ) (slotM q (k + 1 + 1)) (.dma (dq q (k + 1) 0)) hsc) (.dma (dq q (k + 1) 1)) hsrc hdst hsem) fun _ =>
              .op (.enqueueDma (slotM q' (k + 1)) (.remote (Dev.tc n' : Thread nD τ) (slotM q' (k + 1 + 1)) (.dma (dq q' (k + 1) 0)) hsc') (.dma (dq q' (k + 1) 1)) hsrc' hdst' hsem') e) Q) := by
  iintro ⟨#HR, #Hlev, HO, HI, HS, HS'⟩ HK
  iapply (wp_loads m ρ c (4 * chunkAt q k c + q.val) off hoff inb) $$ HI; iintro HI
  iapply (wp_loads m ρ c (4 * chunkAt q' k c + q'.val) off' hoff' inb') $$ HI; iintro HI
  iapply (wave_waits m ρ K c q q' k (by omega) nn hnn) $$ [HO HS HS']
  · isplitr; · iexact HR
    isplitr; · iexact Hlev
    isplitl [HO]; · iexact HO
    isplitl [HS]; · iexact HS
    iexact HS'
  iintro ⟨HO, HM, HM', Ho, Ho'⟩
  iapply (wp_add c q (k + 1) (acc m ρ q k (src q c)) (part m ρ c (4 * chunkAt q k c + q.val))) $$ Ho; iintro Ho
  iapply (wp_add c q' (k + 1) (acc m ρ q' k (src q' c)) (part m ρ c (4 * chunkAt q' k c + q'.val))) $$ Ho'; iintro Ho'
  iapply (wave_launch m ρ K c n n' q q' hqq (k + 1) (by omega) hn hn' nn nn' hq hq' hnew _ _ (acc_add m ρ q k hk c).symm (acc_add m ρ q' k hk c).symm) $$ [HO HM HM' Ho Ho']
  · isplitr; · iexact HR
    isplitl [HO]; · iexact HO
    isplitl [HM]; · iexact HM
    isplitl [HM']; · iexact HM'
    isplitl [Ho]; · iexact Ho
    iexact Ho'
  iintro ⟨HO, HS, HS', HX, HX'⟩
  iapply HK
  isplitl [HO]; · iexact HO
  isplitl [HI]; · iexact HI
  isplitl [HS]; · iexact HS
  isplitl [HS']; · iexact HS'
  isplitl [HX]; · iexact HX
  iexact HX'

/-- A step of a wave in the second half: the four waits, the next launches. -/
theorem round_pass (K : Dev nD × Fin 66 → ℕ) (c n n' : Dev nD) (q q' : Fin 4) (hqq : q' ≠ q) (k : ℕ) (hk3 : 3 ≤ k) (hk : k < 5) (hn : n = dst q c) (hn' : n' = dst q' c)
    (nn nn' : Fin 4 → ℕ) (hnn : ∀ r, k + 1 ≤ nn r) (hq : nn q = k + 1) (hq' : nn q' = k + 1)
    (hnew : nn' = Function.update (Function.update nn q (k + 2)) q' (k + 2))
    {h₁ : (slotM q (k + 1)).view.WordExact} {h₂ : (slotM q k).view.WordExact} {h₃ : (slotM q k).view.WordExact} {h₄ : (slotM q (k + 1)).view.WordExact}
    {h₁' : (slotM q' (k + 1)).view.WordExact} {h₂' : (slotM q' k).view.WordExact} {h₃' : (slotM q' k).view.WordExact} {h₄' : (slotM q' (k + 1)).view.WordExact}
    {hsc : (slotM q (k + 1 + 1) : Memref sig (Dev.tc n : Thread nD τ).2.kind .vmem S128x1024 .bf16).view.ref.isScScratch = false}
    {hsrc : (slotM q (k + 1)).view.WordExact} {hdst : (slotM q (k + 1 + 1)).view.WordExact}
    {hsem : DmaTarget.Typed .vmem (.dma (dq q (k + 1) 1)) (.remote (Dev.tc n : Thread nD τ) (slotM q (k + 1 + 1)) (.dma (dq q (k + 1) 0)) hsc)}
    {hsc' : (slotM q' (k + 1 + 1) : Memref sig (Dev.tc n' : Thread nD τ).2.kind .vmem S128x1024 .bf16).view.ref.isScScratch = false}
    {hsrc' : (slotM q' (k + 1)).view.WordExact} {hdst' : (slotM q' (k + 1 + 1)).view.WordExact}
    {hsem' : DmaTarget.Typed .vmem (.dma (dq q' (k + 1) 1)) (.remote (Dev.tc n' : Thread nD τ) (slotM q' (k + 1 + 1)) (.dma (dq q' (k + 1) 0)) hsc')}
    {α : Type} {Q : α → sProp 𝕄} {e : PUnit → Prog (TpuEff nD τ sig (Elt F) Λ₀ .tc) α} :
    iprop(records m ρ K ∗ levAts L lv ∗ Ow c (owedR c nn) ∗ Strip m ρ c q k ∗ Strip m ρ c q' k)
      ⊢ iprop(((Ow c (owedR c nn') ∗ Strip m ρ c q (k + 1) ∗ Strip m ρ c q' (k + 1) ∗ Rx m ρ c q (k + 1) ∗ Rx m ρ c q' (k + 1)) -∗ Wp c (e ⟨⟩) Q)
          -∗ Wp c (.op (.waitDma2 (dq q k 0) (slotM q (k + 1)) (slotM q k) h₁ h₂) fun _ =>
              .op (.waitDma2 (dq q k 1) (slotM q k) (slotM q (k + 1)) h₃ h₄) fun _ =>
              .op (.waitDma2 (dq q' k 0) (slotM q' (k + 1)) (slotM q' k) h₁' h₂') fun _ =>
              .op (.waitDma2 (dq q' k 1) (slotM q' k) (slotM q' (k + 1)) h₃' h₄') fun _ =>
              .op (.enqueueDma (slotM q (k + 1)) (.remote (Dev.tc n : Thread nD τ) (slotM q (k + 1 + 1)) (.dma (dq q (k + 1) 0)) hsc) (.dma (dq q (k + 1) 1)) hsrc hdst hsem) fun _ =>
              .op (.enqueueDma (slotM q' (k + 1)) (.remote (Dev.tc n' : Thread nD τ) (slotM q' (k + 1 + 1)) (.dma (dq q' (k + 1) 0)) hsc') (.dma (dq q' (k + 1) 1)) hsrc' hdst' hsem') e) Q) := by
  iintro ⟨#HR, #Hlev, HO, HS, HS'⟩ HK
  iapply (wave_waits m ρ K c q q' k (by omega) nn hnn) $$ [HO HS HS']
  · isplitr; · iexact HR
    isplitr; · iexact Hlev
    isplitl [HO]; · iexact HO
    isplitl [HS]; · iexact HS
    iexact HS'
  iintro ⟨HO, HM, HM', Ho, Ho'⟩
  iapply (wave_launch m ρ K c n n' q q' hqq (k + 1) (by omega) hn hn' nn nn' hq hq' hnew _ _ (acc_pass m ρ q k hk3 c).symm (acc_pass m ρ q' k hk3 c).symm) $$ [HO HM HM' Ho Ho']
  · isplitr; · iexact HR
    isplitl [HO]; · iexact HO
    isplitl [HM]; · iexact HM
    isplitl [HM']; · iexact HM'
    isplitl [Ho]; · iexact Ho
    iexact Ho'
  iintro H
  iapply HK; iexact H

/-- The last waits of a wave: both halves of the last slots. -/
theorem round_last (K : Dev nD × Fin 66 → ℕ) (c : Dev nD) (q q' : Fin 4) (nn : Fin 4 → ℕ) (hnn : ∀ r, 6 ≤ nn r)
    {h₁ : (slotM q (5 + 1)).view.WordExact} {h₂ : (slotM q 5).view.WordExact} {h₃ : (slotM q 5).view.WordExact} {h₄ : (slotM q (5 + 1)).view.WordExact}
    {h₁' : (slotM q' (5 + 1)).view.WordExact} {h₂' : (slotM q' 5).view.WordExact} {h₃' : (slotM q' 5).view.WordExact} {h₄' : (slotM q' (5 + 1)).view.WordExact}
    {α : Type} {Q : α → sProp 𝕄} {e : PUnit → Prog (TpuEff nD τ sig (Elt F) Λ₀ .tc) α} :
    iprop(records m ρ K ∗ levAts L lv ∗ Ow c (owedR c nn) ∗ Strip m ρ c q 5 ∗ Strip m ρ c q' 5)
      ⊢ iprop(((Ow c (owedR c nn) ∗ (Mid m ρ c q 6 ∗ owns (c : Thread nD τ) (slotM q 6) fullShare.left (acc m ρ q 6 c))
            ∗ (Mid m ρ c q' 6 ∗ owns (c : Thread nD τ) (slotM q' 6) fullShare.left (acc m ρ q' 6 c)) ∗ Rx m ρ c q 6 ∗ Rx m ρ c q' 6) -∗ Wp c (e ⟨⟩) Q)
          -∗ Wp c (.op (.waitDma2 (dq q 5 0) (slotM q (5 + 1)) (slotM q 5) h₁ h₂) fun _ =>
              .op (.waitDma2 (dq q 5 1) (slotM q 5) (slotM q (5 + 1)) h₃ h₄) fun _ =>
              .op (.waitDma2 (dq q' 5 0) (slotM q' (5 + 1)) (slotM q' 5) h₁' h₂') fun _ =>
              .op (.waitDma2 (dq q' 5 1) (slotM q' 5) (slotM q' (5 + 1)) h₃' h₄') e) Q) := by
  iintro ⟨#HR, #Hlev, HO, HS, HS'⟩ HK
  iapply (wave_waits m ρ K c q q' 5 (by omega) nn hnn) $$ [HO HS HS']
  · isplitr; · iexact HR
    isplitr; · iexact Hlev
    isplitl [HO]; · iexact HO
    isplitl [HS]; · iexact HS
    iexact HS'
  iintro ⟨HO, HM, HM', Ho, Ho'⟩
  ihave Ho := (halves m ρ c q 6 _ (acc_pass m ρ q 5 (by omega) c).symm) $$ Ho
  icases Ho with ⟨Hl, -, HX⟩
  ihave Ho' := (halves m ρ c q' 6 _ (acc_pass m ρ q' 5 (by omega) c).symm) $$ Ho'
  icases Ho' with ⟨Hl', -, HX'⟩
  iapply HK
  isplitl [HO]; · iexact HO
  isplitl [HM Hl]; · isplitl [HM] <;> iassumption
  isplitl [HM' Hl']; · isplitl [HM'] <;> iassumption
  isplitl [HX]; · iexact HX
  iexact HX'

/-! ## The copies to the result -/

/-- A copy to the result still to come, -/
def OutRs (c : Dev nD) (q j : Fin 4) : sProp 𝕄 :=
  iprop(dutyTok ER (outCell c q j) 0 false ∗ atPos ER (outCell c q j) 0 ∅ 0 ∗ ∃ X, owns (c : Thread nD τ) (outM (outRow c q j)) fullShare X)
/-- issued, -/
def OutFl (c : Dev nD) (q j : Fin 4) : sProp 𝕄 := iprop(atPos ER (outCell c q j) 0 ∅ 0 ∗ cred (tallyAt (outCell c q j) () NO))
/-- and landed. -/
def OutDn (c : Dev nD) (q j : Fin 4) : sProp 𝕄 := iprop(atPos ER (outCell c q j) 1 ∅ 0 ∗ outPay m ρ c q j)

/-- The copies of the same slot of the two strips of a wave. -/
theorem wave_out (K : Dev nD × Fin 66 → ℕ) (c : Dev nD) (q q' j : Fin 4) (off off' : Fin 2 → ℕ)
    (hoff : off = ![128 * (outRow c q j % 16), 0]) (hoff' : off' = ![128 * (outRow c q' j % 16), 0])
    (inb : ∀ a, off a + S128x1024.size a ≤ S2048x1024.size a) (inb' : ∀ a, off' a + S128x1024.size a ≤ S2048x1024.size a)
    {hsrc : (slotM q (3 + j.val)).view.WordExact} {hdst : (oM.slice (Rect.unit (s := S2048x1024) off S128x1024.size inb) (fun _ => rfl)).view.WordExact}
    {hsem : DmaTarget.Typed (nD := nD) (τ := τ) (p := .tc) .vmem (.dma (dout q j)) (.here (oM.slice (Rect.unit (s := S2048x1024) off S128x1024.size inb) (fun _ => rfl)))}
    {hsrc' : (slotM q' (3 + j.val)).view.WordExact} {hdst' : (oM.slice (Rect.unit (s := S2048x1024) off' S128x1024.size inb') (fun _ => rfl)).view.WordExact}
    {hsem' : DmaTarget.Typed (nD := nD) (τ := τ) (p := .tc) .vmem (.dma (dout q' j)) (.here (oM.slice (Rect.unit (s := S2048x1024) off' S128x1024.size inb') (fun _ => rfl)))}
    {α : Type} {Q : α → sProp 𝕄} {e : PUnit → Prog (TpuEff nD τ sig (Elt F) Λ₀ .tc) α} :
    iprop(records m ρ K ∗ OutRs c q j ∗ OutRs c q' j ∗ Rx m ρ c q (3 + j.val) ∗ Rx m ρ c q' (3 + j.val))
      ⊢ iprop(((OutFl c q j ∗ OutFl c q' j) -∗ Wp c (e ⟨⟩) Q)
          -∗ Wp c (.op (.enqueueDma (slotM q (3 + j.val)) (.here (oM.slice (Rect.unit (s := S2048x1024) off S128x1024.size inb) (fun _ => rfl))) (.dma (dout q j)) hsrc hdst hsem) fun _ =>
              .op (.enqueueDma (slotM q' (3 + j.val)) (.here (oM.slice (Rect.unit (s := S2048x1024) off' S128x1024.size inb') (fun _ => rfl))) (.dma (dout q' j)) hsrc' hdst' hsem') e) Q) := by
  unfold Rx OutRs OutFl
  rw [if_neg (by omega), if_neg (by omega)]
  iintro ⟨#HR, ⟨Ht, Ha, Ho⟩, ⟨Ht', Ha', Ho'⟩, HX, HX'⟩ HK
  iapply (wp_copyOut m ρ K c q j off hoff inb) $$ [Ht Ho HX]
  · isplitr; · iexact HR
    isplitl [Ht]; · iexact Ht
    isplitl [HX]; · iexact HX
    iexact Ho
  iintro Hc
  iapply (wp_copyOut m ρ K c q' j off' hoff' inb') $$ [Ht' Ho' HX']
  · isplitr; · iexact HR
    isplitl [Ht']; · iexact Ht'
    isplitl [HX']; · iexact HX'
    iexact Ho'
  iintro Hc'
  iapply HK
  isplitl [Ha Hc]; · isplitl [Ha] <;> iassumption
  isplitl [Ha'] <;> iassumption

/-- The wait for a copy to the result, when nothing is owed. -/
theorem out_wait (K : Dev nD × Fin 66 → ℕ) (c : Dev nD) (q j : Fin 4) (nn : Fin 4 → ℕ) {sp₁ sp₂ : Space} {s₁ s₂ : Shape} {e₁ e₂ : EltTy}
    {M₁ : Memref sig .tc sp₁ s₁ e₁} {M₂ : Memref sig .tc sp₂ s₂ e₂} {h₁ : M₁.view.WordExact} {h₂ : M₂.view.WordExact} (hN : M₂.view.dmaCredit = NO)
    {α : Type} {Q : α → sProp 𝕄} {e : PUnit → Prog (TpuEff nD τ sig (Elt F) Λ₀ .tc) α} :
    iprop(records m ρ K ∗ levAts L lv ∗ Ow c (owedR c nn) ∗ OutFl c q j)
      ⊢ iprop(((Ow c (owedR c nn) ∗ OutDn m ρ c q j) -∗ Wp c (e ⟨⟩) Q) -∗ Wp c (.op (.waitDma2 (dout q j) M₁ M₂ h₁ h₂) e) Q) := by
  unfold OutFl OutDn
  iintro ⟨#HR, #Hlev, HO, Ha, Hc⟩ HK
  iapply (wp_waitD m ρ K c (dout q j) (dout_ne q j) nn 0 (by fin_cases q <;> fin_cases j <;> rfl) (fun r => by omega)
    (hN.trans (dmaAmt_dout q j).symm)) $$ [HO Ha Hc]
  · isplitr; · iexact HR
    isplitr; · iexact Hlev
    isplitl [HO]; · iexact HO
    isplitl [Ha]; · iexact Ha
    rw [dmaAmt_dout]; iexact Hc
  iintro ⟨HO, Ha, Hp⟩
  ihave Hp := (Entails.of_eq (pay_out m ρ c q j)) $$ Hp
  iapply HK
  isplitl [HO]; · iexact HO
  isplitl [Ha] <;> iassumption

end Cert.AllReduce

end
-- ==== Proof.Deal.lean ====
/- Dealing the cells and the buffers to the strips and collecting them again. -/

module

public import proofs.«01_k».proof.Proof.Strips

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

theorem sep_assoc_eq (P Q R : sProp 𝕄) : iprop((P ∗ Q) ∗ R) = iprop(P ∗ Q ∗ R) := equiv_iff.mp ⟨BI.sep_assoc, BI.sep_assoc'⟩

theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons_cons, bigSepL_singleton]
  rfl
theorem bigSep_six (Φ : ℕ → sProp 𝕄) : bigSep (Finset.range 6) Φ = iprop(Φ 0 ∗ Φ 1 ∗ Φ 2 ∗ Φ 3 ∗ Φ 4 ∗ Φ 5) := by
  rw [Finset.range_eq_Ico, bigSep_Ico_succ_bot (by decide), bigSep_Ico_succ_bot (by decide), bigSep_Ico_succ_bot (by decide), bigSep_Ico_succ_bot (by decide),
    bigSep_Ico_succ_bot (by decide), bigSep_Ico_one]

/-- A device's cells in the order of their use. -/
def cellOrder : List (Fin 66) :=
  [0, dwo] ++ ([0, 1, 2, 3].flatMap fun q : Fin 4 => [0, 1, 2, 3].map fun j : Fin 4 => (dout q j : Fin 66))
    ++ ([0, 1, 2, 3].flatMap fun q : Fin 4 => [0, 1, 2, 3, 4, 5].flatMap fun k : ℕ => [(dq q k 0 : Fin 66), dq q k 1])

/-- One thing per cell of a device: the barrier cell's, that of the copy of `Wo`'s rows, those of the copies to the
    result, those of the strips. -/
theorem cells_split (Φ : Fin 66 → sProp 𝕄) :
    bigSep Finset.univ Φ = iprop(Φ 0 ∗ Φ dwo ∗ (bigSep Finset.univ fun q : Fin 4 => bigSep Finset.univ fun j : Fin 4 => Φ (dout q j))
      ∗ (bigSep Finset.univ fun q : Fin 4 => bigSep (Finset.range 6) fun k => iprop(Φ (dq q k 0) ∗ Φ (dq q k 1)))) := by
  rw [bigSep_univ_eq_bigSepL cellOrder (by decide) (by decide)]
  simp only [cellOrder, List.flatMap_cons, List.flatMap_nil, List.map_cons, List.map_nil, List.cons_append, List.nil_append, List.append_nil,
    bigSepL_cons_cons, bigSepL_singleton, bigSep_four, bigSep_six, sep_assoc_eq]
  rfl

/-! ## The exchange buffer -/

theorem slots_disj (t t' : Fin 4 × Fin 7) (h : t ≠ t') : Disjoint (slotR t.1 t.2.val).set (slotR t'.1 t'.2.val).set := by
  rw [Finset.disjoint_left]
  intro x hx hx'
  rw [Rect.mem_set_unit] at hx hx'
  apply h
  have h0 := hx 0; have h1 := hx 1; have g0 := hx' 0; have g1 := hx' 1
  simp only [Matrix.cons_val_zero, Matrix.cons_val_one] at h0 h1 g0 g1
  have := t.2.isLt; have := t'.2.isLt
  ext
  · omega
  · omega

theorem slots_cover : (Finset.univ : Finset (Fin 4 × Fin 7)).biUnion (fun t => (slotR t.1 t.2.val).set) = Finset.univ := by
  rw [Finset.eq_univ_iff_forall]
  intro x
  have h0 : (x 0).val < 7 := (x 0).isLt
  have h1 : (x 1).val < 512 := (x 1).isLt
  have h2 : (x 2).val < 1024 := (x 2).isLt
  refine Finset.mem_biUnion.mpr ⟨(⟨(x 1).val / 128, by omega⟩, ⟨(x 0).val, h0⟩), Finset.mem_univ _, Rect.mem_set_unit.mpr fun a => ?_⟩
  fin_cases a
  · show (x 0).val % 7 ≤ (x 0).val ∧ (x 0).val < (x 0).val % 7 + 1; omega
  · show 128 * ((x 1).val / 128) ≤ (x 1).val ∧ (x 1).val < 128 * ((x 1).val / 128) + 128; omega
  · show 0 ≤ (x 2).val ∧ (x 2).val < 0 + 1024; omega

/-- A slot with any contents. -/
abbrev anySlot (c : Dev nD) (q : Fin 4) (s : ℕ) : sProp 𝕄 := iprop(∃ X, owns (c : Thread nD τ) (slotM q s) fullShare X)

theorem slot_slice (c : Dev nD) (q : Fin 4) (s : ℕ) :
    (anySlot (F := F) c q s) ⊣⊢ ownsSat (c : Thread nD τ) (cM.slice (slotR q s) (fun _ => rfl)) fullShare (fun _ => True) := by
  constructor
  · unfold anySlot owns ownsSat
    iintro ⟨%X, %f, -, H⟩
    iexists f
    isplitr; · ipureintro; trivial
    rw [show (slotM q s).view.set = (cM.slice (slotR q s) (fun _ => rfl)).view.set from View.set_reshape _ _]
    iexact H
  · unfold anySlot owns ownsSat
    iintro ⟨%f, -, H⟩
    iexists _, f
    isplitr; · ipureintro; rfl
    rw [show (slotM q s).view.set = (cM.slice (slotR q s) (fun _ => rfl)).view.set from View.set_reshape _ _]
    iexact H

/-- The exchange buffer is its 28 slots, whatever they hold. -/
theorem slots_split (c : Dev nD) :
    iprop(∃ f, ((c : Thread nD τ).loc cc0_scratch2) ↦{fullShare} f)
      ⊢ (bigSep Finset.univ fun t : Fin 4 × Fin 7 => anySlot (F := F) c t.1 t.2.val : sProp 𝕄) := by
  refine BIBase.Entails.trans ?_ (BI.bigSep_mono fun t _ => (slot_slice c t.1 t.2.val).2)
  refine BIBase.Entails.trans ?_ (ownsSat_rects (c : Thread nD τ) cM fullShare (fun t : Fin 4 × Fin 7 => slotR t.1 t.2.val) (fun _ _ => rfl) slots_disj slots_cover (fun _ _ => True))
  unfold ownsSat
  iintro ⟨%f, H⟩
  iexists f
  isplitr; · ipureintro; exact fun _ => trivial
  rw [View.set_whole]; iexact H
theorem slots_join (c : Dev nD) :
    (bigSep Finset.univ fun t : Fin 4 × Fin 7 => anySlot (F := F) c t.1 t.2.val : sProp 𝕄)
      ⊢ iprop(∃ f, ((c : Thread nD τ).loc cc0_scratch2) ↦{fullShare} f) := by
  refine (BI.bigSep_mono fun t _ => (slot_slice c t.1 t.2.val).1).trans ?_
  refine (ownsSat_of_rects (c : Thread nD τ) cM fullShare (fun t : Fin 4 × Fin 7 => slotR t.1 t.2.val) (fun _ _ => rfl) slots_disj slots_cover (fun _ _ => True)).trans ?_
  unfold ownsSat
  iintro ⟨%f, -, H⟩
  iexists f
  rw [View.set_whole]; iexact H

/-! ## The result -/

theorem rows_disj (n n' : Fin 16) (h : n ≠ n') : Disjoint (rowsR n.val).set (rowsR n'.val).set := by
  rw [Finset.disjoint_left]
  intro x hx hx'
  rw [Rect.mem_set_unit] at hx hx'
  apply h
  have h0 := hx 0; have g0 := hx' 0
  simp only [Matrix.cons_val_zero] at h0 g0
  have := n.isLt; have := n'.isLt
  ext
  omega

theorem rows_cover : (Finset.univ : Finset (Fin 16)).biUnion (fun n => (rowsR n.val).set) = Finset.univ := by
  rw [Finset.eq_univ_iff_forall]
  intro x
  have h0 : (x 0).val < 2048 := (x 0).isLt
  have h1 : (x 1).val < 1024 := (x 1).isLt
  refine Finset.mem_biUnion.mpr ⟨⟨(x 0).val / 128, by omega⟩, Finset.mem_univ _, Rect.mem_set_unit.mpr fun a => ?_⟩
  fin_cases a
  · show 128 * ((x 0).val / 128 % 16) ≤ (x 0).val ∧ (x 0).val < 128 * ((x 0).val / 128 % 16) + 128; omega
  · show 0 ≤ (x 1).val ∧ (x 1).val < 0 + 1024; omega

/-- The strip and the slot rows `128 n …` of the result come from on device `c`. -/
def outAtOf (c : Dev nD) (n : Fin 16) : Fin 4 × Fin 4 :=
  (⟨n.val % 4, by omega⟩, ⟨(if n.val % 4 < 2 then c.val + 5 + 4 - n.val / 4 else n.val / 4 + 4 + 1 - c.val) % 4, Nat.mod_lt _ (by decide)⟩)
theorem outRow_lt (c : Dev nD) (q j : Fin 4) : outRow c q j < 16 := by unfold outRow; split <;> omega

/-- On each device the 16 copies to the result write its 16 strips of rows, each once. -/
def outEquiv (c : Dev nD) : Fin 4 × Fin 4 ≃ Fin 16 :=
  ⟨fun t => ⟨outRow c t.1 t.2, outRow_lt c t.1 t.2⟩, outAtOf c, by revert c; decide, by revert c; decide⟩

/-- The result: strip `n` of its rows is what the last slots of strip `n % 4` hold. -/
def outv (c : Dev nD) : Vec F S2048x1024 .bf16 :=
  Rect.glue (fun n : Fin 16 => rowsR n.val) rows_cover fun n => acc m ρ (outAtOf c n).1 (3 + (outAtOf c n).2.val) c

theorem outv_at (c : Dev nD) (n : Fin 16) :
    (fun i => outv m ρ c ((rowsR n.val).emb i)) = acc m ρ (outAtOf c n).1 (3 + (outAtOf c n).2.val) c :=
  funext fun i => Rect.glue_emb _ rows_cover rows_disj _ n i

/-- The result buffer is the rows of the 16 copies, -/
theorem out_split (c : Dev nD) (f : Buf (Elt F) ((c : Thread nD τ).loc main_v1)) :
    (((c : Thread nD τ).loc main_v1) ↦{fullShare} f : sProp 𝕄)
      ⊢ bigSep Finset.univ fun q : Fin 4 => bigSep Finset.univ fun j : Fin 4 => iprop(∃ X, owns (c : Thread nD τ) (outM (outRow c q j)) fullShare X) := by
  rw [← bigSep_univ_prod (fun t : Fin 4 × Fin 4 => iprop(∃ X, owns (c : Thread nD τ) (outM (outRow c t.1 t.2)) fullShare X)),
    show (fun t : Fin 4 × Fin 4 => (iprop(∃ X, owns (c : Thread nD τ) (outM (outRow c t.1 t.2)) fullShare X) : sProp 𝕄))
      = fun t => (fun n : Fin 16 => (iprop(∃ X, owns (c : Thread nD τ) (outM n.val) fullShare X) : sProp 𝕄)) (outEquiv c t) from rfl,
    ← bigSep_univ_equiv (outEquiv c) (fun n : Fin 16 => iprop(∃ X, owns (c : Thread nD τ) (outM n.val) fullShare X))]
  refine BIBase.Entails.trans ?_ (BI.bigSep_mono fun n _ =>
    show (owns (c : Thread nD τ) (outM n.val) fullShare (fun i => f ((rowsR n.val).emb i)) : sProp 𝕄) ⊢ iprop(∃ X, owns (c : Thread nD τ) (outM n.val) fullShare X) from by
      iintro H; iexists _; iexact H)
  exact (Entails.of_eq (owns_whole (c : Thread nD τ) main_v1 fullShare f).symm).trans (owns_rects (c : Thread nD τ) oM fullShare (fun n : Fin 16 => rowsR n.val) (fun _ _ => rfl) rows_disj rows_cover f)

/-- and with what the copies wrote it holds the result. -/
theorem out_join (c : Dev nD) :
    (bigSep Finset.univ fun q : Fin 4 => bigSep Finset.univ fun j : Fin 4 => owns (c : Thread nD τ) (outM (outRow c q j)) fullShare (acc m ρ q (3 + j.val) c))
      ⊢ (((c : Thread nD τ).loc main_v1) ↦{fullShare} outv m ρ c : sProp 𝕄) := by
  have h : ∀ t : Fin 4 × Fin 4, owns (c : Thread nD τ) (outM (outRow c t.1 t.2)) fullShare (acc m ρ t.1 (3 + t.2.val) c)
      = (fun n : Fin 16 => (owns (c : Thread nD τ) (outM n.val) fullShare (fun i => outv m ρ c ((rowsR n.val).emb i)) : sProp 𝕄)) (outEquiv c t) := fun t => by
    have ht : outAtOf c (outEquiv c t) = t := (outEquiv c).symm_apply_apply t
    have e : (fun i => outv m ρ c ((rowsR (outEquiv c t).val).emb i)) = acc m ρ t.1 (3 + t.2.val) c := (outv_at m ρ c (outEquiv c t)).trans (by rw [ht])
    exact (congrArg (fun X => (owns (c : Thread nD τ) (outM (outRow c t.1 t.2)) fullShare X : sProp 𝕄)) e).symm
  refine BIBase.Entails.trans (Entails.of_eq (bigSep_univ_prod
    (fun t : Fin 4 × Fin 4 => (owns (c : Thread nD τ) (outM (outRow c t.1 t.2)) fullShare (acc m ρ t.1 (3 + t.2.val) c) : sProp 𝕄))).symm) ?_
  rw [bigSep_congr (fun t _ => h t), ← bigSep_univ_equiv (outEquiv c) (fun n : Fin 16 => (owns (c : Thread nD τ) (outM n.val) fullShare (fun i => outv m ρ c ((rowsR n.val).emb i)) : sProp 𝕄))]
  exact (owns_of_rects (c : Thread nD τ) oM fullShare (fun n : Fin 16 => rowsR n.val) (fun _ _ => rfl) rows_disj rows_cover (outv m ρ c)).trans
    (Entails.of_eq (owns_whole (c : Thread nD τ) main_v1 fullShare (outv m ρ c)))

/-! ## A strip at the start and at the end -/

/-- A step of a strip before the slot it lands in is known to be free. -/
def RsT (c : Dev nD) (q : Fin 4) (k : ℕ) : sProp 𝕄 :=
  iprop(dutyTok ER (sendCell c q k) 0 false ∗ dutyTok ER (recvCell (dst q c) q k) 0 false
    ∗ atPos ER (sendCell c q k) 0 ∅ 0 ∗ atPos ER (recvCell c q k) 0 ∅ 0 ∗ cred (tallyAt (recvCell c q k) () NS))

theorem strip_start (c : Dev nD) (q : Fin 4) :
    iprop(bigSep (Finset.range 6) (RsT (F := F) c q) ∗ lands (F := F) (dst q c) q) ⊢ (Mid m ρ c q 0 : sProp 𝕄) := by
  unfold Mid lands
  rw [Finset.range_zero, bigSep_empty, Finset.range_eq_Ico, ← bigSep_sep' (Finset.Ico 0 6)]
  refine (BI.bigSep_mono (Ψ := Rs (F := F) c q) fun k _ => show iprop(RsT (F := F) c q k ∗ land (F := F) (dst q c) q k) ⊢ Rs (F := F) c q k from ?_).trans BI.emp_sep.2
  unfold RsT Rs
  iintro ⟨⟨H1, H2, H3, H4, H5⟩, Hl⟩
  isplitl [H1]; · iexact H1
  isplitl [H2]; · iexact H2
  isplitl [Hl]; · iexact Hl
  isplitl [H3]; · iexact H3
  isplitl [H4]; · iexact H4
  iexact H5

theorem lands_slots (c : Dev nD) (q : Fin 4) :
    (bigSep Finset.univ fun s : Fin 7 => anySlot (F := F) c q s.val : sProp 𝕄) = iprop(anySlot c q 0 ∗ lands (F := F) c q) := by
  unfold lands
  rw [bigSep_univ_eq_bigSepL [0, 1, 2, 3, 4, 5, 6] (by decide) (by decide), bigSep_six]
  simp only [bigSepL_cons_cons, bigSepL_singleton]
  rfl

/-- Both halves of a slot are the slot. -/
theorem join_any (c : Dev nD) (q : Fin 4) (s : ℕ) (X : FVec F S128x1024 .bf16) :
    iprop(owns (c : Thread nD τ) (slotM q s) fullShare.left X ∗ owns (c : Thread nD τ) (slotM q s) fullShare.right X) ⊢ (anySlot c q s : sProp 𝕄) := by
  refine (owns_halves (Val := Elt F) (c : Thread nD τ) (slotM q s) fullShare X).2.trans ?_
  iintro H
  iexists X
  iexact H

/-- The cells' positions and the slots' left halves, one per finished step. -/
theorem done_split (c : Dev nD) (q : Fin 4) (j : ℕ) (hj : j < 3) :
    Dn m ρ c q j ⊢ iprop((atPos ER (sendCell c q j) 1 ∅ 0 ∗ atPos ER (recvCell c q j) 1 ∅ 0) ∗ anySlot c q j) := by
  unfold Dn Rt
  rw [if_pos hj]
  iintro ⟨Ha, Hb, Hl, Hr⟩
  isplitl [Ha Hb]; · isplitl [Ha] <;> iassumption
  iapply (join_any c q j _)
  isplitl [Hl] <;> iassumption
theorem done_split' (c : Dev nD) (q : Fin 4) (j : ℕ) :
    iprop(Dn m ρ c q j ∗ owns (c : Thread nD τ) (slotM q j) fullShare.right (acc m ρ q j c))
      ⊢ iprop((atPos ER (sendCell c q j) 1 ∅ 0 ∗ atPos ER (recvCell c q j) 1 ∅ 0) ∗ anySlot c q j) := by
  unfold Dn
  iintro ⟨⟨Ha, Hb, Hl, -⟩, Hr⟩
  isplitl [Ha Hb]; · isplitl [Ha] <;> iassumption
  iapply (join_any c q j _)
  isplitl [Hl] <;> iassumption

/-- A finished strip whose copies to the result have landed gives back its cells, its slots and its rows of the result. -/
theorem strip_end (c : Dev nD) (q : Fin 4) :
    iprop((Mid m ρ c q 6 ∗ owns (c : Thread nD τ) (slotM q 6) fullShare.left (acc m ρ q 6 c)) ∗ (bigSep Finset.univ fun j : Fin 4 => OutDn m ρ c q j))
      ⊢ iprop((bigSep (Finset.range 6) fun k => iprop(atPos ER (sendCell c q k) 1 ∅ 0 ∗ atPos ER (recvCell c q k) 1 ∅ 0))
          ∗ (bigSep Finset.univ fun s : Fin 7 => anySlot (F := F) c q s.val)
          ∗ (bigSep Finset.univ fun j : Fin 4 => atPos ER (outCell c q j) 1 ∅ 0)
          ∗ (bigSep Finset.univ fun j : Fin 4 => owns (c : Thread nD τ) (outM (outRow c q j)) fullShare (acc m ρ q (3 + j.val) c)) : sProp 𝕄) := by
  unfold Mid OutDn outPay
  rw [bigSep_six, bigSep_six, bigSep_four, bigSep_four, bigSep_four, lands_slots]
  unfold lands land
  rw [bigSep_six]
  iintro ⟨⟨⟨⟨H0, H1, H2, H3, H4, H5⟩, -⟩, H6⟩, ⟨A0, R0, O0⟩, ⟨A1, R1, O1⟩, ⟨A2, R2, O2⟩, ⟨A3, R3, O3⟩⟩
  ihave H0 := (done_split m ρ c q 0 (by decide)) $$ H0
  ihave H1 := (done_split m ρ c q 1 (by decide)) $$ H1
  ihave H2 := (done_split m ρ c q 2 (by decide)) $$ H2
  ihave H3 := (done_split' m ρ c q 3) $$ [H3 R0]
  · isplitl [H3]; · iexact H3
    iexact R0
  ihave H4 := (done_split' m ρ c q 4) $$ [H4 R1]
  · isplitl [H4]; · iexact H4
    iexact R1
  ihave H5 := (done_split' m ρ c q 5) $$ [H5 R2]
  · isplitl [H5]; · iexact H5
    iexact R2
  ihave H6 := (join_any c q 6 (acc m ρ q 6 c)) $$ [H6 R3]
  · isplitl [H6]; · iexact H6
    iexact R3
  icases H0 with ⟨P0, S0⟩
  icases H1 with ⟨P1, S1⟩
  icases H2 with ⟨P2, S2⟩
  icases H3 with ⟨P3, S3⟩
  icases H4 with ⟨P4, S4⟩
  icases H5 with ⟨P5, S5⟩
  isplitl [P0 P1 P2 P3 P4 P5]
  · isplitl [P0]; · iexact P0
    isplitl [P1]; · iexact P1
    isplitl [P2]; · iexact P2
    isplitl [P3]; · iexact P3
    isplitl [P4]; · iexact P4
    iexact P5
  isplitl [S0 S1 S2 S3 S4 S5 H6]
  · isplitl [S0]; · iexact S0
    isplitl [S1]; · iexact S1
    isplitl [S2]; · iexact S2
    isplitl [S3]; · iexact S3
    isplitl [S4]; · iexact S4
    isplitl [S5]; · iexact S5
    iexact H6
  isplitl [A0 A1 A2 A3]
  · isplitl [A0]; · iexact A0
    isplitl [A1]; · iexact A1
    isplitl [A2]; · iexact A2
    iexact A3
  isplitl [O0]; · iexact O0
  isplitl [O1]; · iexact O1
  isplitl [O2]; · iexact O2
  iexact O3

theorem rec_cell (K : Dev nD × Fin 66 → ℕ) (ck : Dev nD × Fin 66) : records m ρ K ⊢ cellInv ER (ringRd m ρ) (K ck) (kcell ck) := by
  unfold records
  iintro ⟨H, -⟩
  iapply (show (bigSep Finset.univ fun ck : Dev nD × Fin 66 => cellInv ER (ringRd m ρ) (K ck) (kcell ck)) ⊢ (cellInv ER (ringRd m ρ) (K ck) (kcell ck) : sProp 𝕄)
    from bigSep_elim (Finset.mem_univ ck))
  iexact H

/-- Every cell past its round closes: its counter is at zero. -/
theorem cells_close (K : Dev nD × Fin 66 → ℕ) (c : Dev nD) :
    iprop(records m ρ K ∗ bigSep Finset.univ fun i : Fin 66 => atPos ER (kcell (c, i)) 1 ∅ 0)
      ⊢ iprop(|={Set.univ}=> bigSep Finset.univ fun i : Fin 66 => semVal (kcell (c, i)) 0) := by
  refine BIBase.Entails.trans ?_ (bigSep_fupd Finset.univ fun i : Fin 66 => (semVal (kcell (c, i)) 0 : sProp 𝕄))
  refine (BI.sep_mono (BI.bigSep_of_persistent (Finset.univ : Finset (Fin 66)) (records m ρ K)) (BI.Entails.refl _)).trans ?_
  refine BIBase.Entails.trans (Entails.of_eq (bigSep_sep' Finset.univ (fun _ : Fin 66 => records m ρ K) (fun i : Fin 66 => (atPos ER (kcell (c, i)) 1 ∅ 0 : sProp 𝕄))).symm) ?_
  refine BI.bigSep_mono fun i _ => show iprop(records m ρ K ∗ atPos ER (kcell (c, i)) 1 ∅ 0) ⊢ iprop(|={Set.univ}=> semVal (kcell (c, i)) 0) from ?_
  iintro ⟨#HR, Ha⟩
  ihave #Hi := (rec_cell m ρ K (c, i)) $$ HR
  imod (Rounds.cell_close ER (ringRd m ρ) (Set.mem_univ (K (c, i))) (fun h => h) (R := 0 + 1) (duties_later m ρ (kcell (c, i)))) $$ [Ha] with Hz
  · isplitr; · iexact Hi
    iexact Ha
  imodintro; iexact Hz

end Cert.AllReduce

end
-- ==== Proof.Body.lean ====
/- The body of the all-reduce on a device, executed once for every device. -/

module

public import proofs.«01_k».proof.Proof.Deal

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The devices and the rows the body addresses -/

theorem devs_nxt : ∀ c : Dev nD, ∀ f ∈ [k0_dev2, k0_dev3, k0_dev5, k0_dev7, k0_dev9, k0_dev11, k0_dev13, k0_dev15, k0_dev17, k0_dev19, k0_dev21,
    k0_dev23, k0_dev25], f c = (nxt c).val := by decide +kernel
theorem devs_prv : ∀ c : Dev nD, ∀ f ∈ [k0_dev1, k0_dev4, k0_dev6, k0_dev8, k0_dev10, k0_dev12, k0_dev14, k0_dev16, k0_dev18, k0_dev20, k0_dev22,
    k0_dev24, k0_dev26], f c = (prv c).val := by decide +kernel

theorem off2_eq : ∀ (c : Dev nD) (q : Fin 4), k0_off2 c (BitVec.ofNat 32 (128 * q.val)) = ![128 * ((4 * c.val + q.val) % 16), 0] := by decide +kernel
theorem off3_eq : ∀ (c : Dev nD) (k : Fin 3) (w : Fin 2), k0_off3 c (BitVec.ofNat 32 k.val) (BitVec.ofNat 32 (128 * w.val))
    = ![128 * ((4 * chunkAt ⟨w.val, by omega⟩ k.val c + w.val) % 16), 0] := by decide +kernel
theorem off4_eq : ∀ (c : Dev nD) (k : Fin 3) (w : Fin 2), k0_off4 c (BitVec.ofNat 32 k.val) (BitVec.ofNat 32 (256 + 128 * w.val))
    = ![128 * ((4 * chunkAt ⟨w.val + 2, by omega⟩ k.val c + (w.val + 2)) % 16), 0] := by decide +kernel
/-- The rows the copies of slot 3 and of the later slots go to, clockwise and counter-clockwise. -/
theorem off5_cw : ∀ (c : Dev nD) (w : Fin 2), k0_off5 c 1#32 (BitVec.ofNat 32 (128 * w.val)) = ![128 * (outRow c ⟨w.val, by omega⟩ 0 % 16), 0] := by decide +kernel
theorem off6_cw : ∀ (c : Dev nD) (j : Fin 3) (w : Fin 2), k0_off6 c (BitVec.ofNat 32 j.val) (BitVec.ofNat 32 (128 * w.val))
    = ![128 * (outRow c ⟨w.val, by omega⟩ ⟨j.val + 1, by omega⟩ % 16), 0] := by decide +kernel
theorem off6_ccw : ∀ (c : Dev nD) (w : Fin 2), k0_off6 c 1#32 (BitVec.ofNat 32 (256 + 128 * w.val)) = ![128 * (outRow c ⟨w.val + 2, by omega⟩ 0 % 16), 0] := by decide +kernel
theorem off5_ccw : ∀ (c : Dev nD) (j : Fin 3) (w : Fin 2), k0_off5 c (BitVec.ofNat 32 j.val) (BitVec.ofNat 32 (256 + 128 * w.val))
    = ![128 * (outRow c ⟨w.val + 2, by omega⟩ ⟨j.val + 1, by omega⟩ % 16), 0] := by decide +kernel

/-! ## The first launches of a wave -/

/-- A wave's own partial products into its first slots, and the first launches. -/
theorem wave_init (K : Dev nD × Fin 66 → ℕ) (c n n' : Dev nD) (q q' : Fin 4) (hqq : q' ≠ q) (hn : n = dst q c) (hn' : n' = dst q' c)
    (nn nn' : Fin 4 → ℕ) (hq : nn q = 0) (hq' : nn q' = 0) (hnew : nn' = Function.update (Function.update nn q 1) q' 1)
    (off off' : Fin 2 → ℕ) (hoff : off = ![128 * ((4 * c.val + q.val) % 16), 0]) (hoff' : off' = ![128 * ((4 * c.val + q'.val) % 16), 0])
    (inb : ∀ a, off a + S128x1024.size a ≤ S2048x1024.size a) (inb' : ∀ a, off' a + S128x1024.size a ≤ S2048x1024.size a)
    {hl₁ : xM.view.LoadsAt (Rect.unit (s := S2048x1024) off S128x1024.size inb).toLoadRect} {hl₂ : wbM.view.LoadsAt wholeR.toLoadRect}
    {hl₃ : xM.view.LoadsAt (Rect.unit (s := S2048x1024) off' S128x1024.size inb').toLoadRect} {hl₄ : wbM.view.LoadsAt wholeR.toLoadRect}
    {hl : cM.view.LoadsAt (slotR q 0).toLoadRect} {hx : (cM.access (slotR q 0)).Stores Finset.univ}
    {hm : Finset.univ = Finset.univ ∨ ∀ a, (slotR q 0).stride a = 1}
    {gl : cM.view.LoadsAt (slotR q' 0).toLoadRect} {gx : (cM.access (slotR q' 0)).Stores Finset.univ}
    {gm : Finset.univ = Finset.univ ∨ ∀ a, (slotR q' 0).stride a = 1}
    {hsc : (slotM q 1 : Memref sig (Dev.tc n : Thread nD τ).2.kind .vmem S128x1024 .bf16).view.ref.isScScratch = false}
    {hsrc : (slotM q 0).view.WordExact} {hdst : (slotM q 1).view.WordExact}
    {hsem : DmaTarget.Typed .vmem (.dma (dq q 0 1)) (.remote (Dev.tc n : Thread nD τ) (slotM q 1) (.dma (dq q 0 0)) hsc)}
    {hsc' : (slotM q' 1 : Memref sig (Dev.tc n' : Thread nD τ).2.kind .vmem S128x1024 .bf16).view.ref.isScScratch = false}
    {hsrc' : (slotM q' 0).view.WordExact} {hdst' : (slotM q' 1).view.WordExact}
    {hsem' : DmaTarget.Typed .vmem (.dma (dq q' 0 1)) (.remote (Dev.tc n' : Thread nD τ) (slotM q' 1) (.dma (dq q' 0 0)) hsc')}
    {α : Type} {Q : α → sProp 𝕄} {e : PUnit → Prog (TpuEff nD τ sig (Elt F) Λ₀ .tc) α} :
    iprop(records m ρ K ∗ Ow c (owedR c nn) ∗ Ins m ρ c ∗ (Mid m ρ c q 0 ∗ anySlot c q 0) ∗ (Mid m ρ c q' 0 ∗ anySlot c q' 0))
      ⊢ iprop(((Ow c (owedR c nn') ∗ Ins m ρ c ∗ Strip m ρ c q 0 ∗ Strip m ρ c q' 0) -∗ Wp c (e ⟨⟩) Q)
          -∗ Wp c (.op (.load xM (Rect.unit (s := S2048x1024) off S128x1024.size inb).toLoadRect hl₁) fun v => .op (.load wbM wholeR.toLoadRect hl₂) fun w =>
              .op (.load cM (slotR q 0).toLoadRect hl) fun _ => .op (.store cM (slotR q 0) (k0_pay2 v w) Finset.univ hx hm) fun _ =>
              .op (.load xM (Rect.unit (s := S2048x1024) off' S128x1024.size inb').toLoadRect hl₃) fun v' => .op (.load wbM wholeR.toLoadRect hl₄) fun w' =>
              .op (.load cM (slotR q' 0).toLoadRect gl) fun _ => .op (.store cM (slotR q' 0) (k0_pay2 v' w') Finset.univ gx gm) fun _ =>
              .op (.enqueueDma (slotM q 0) (.remote (Dev.tc n : Thread nD τ) (slotM q 1) (.dma (dq q 0 0)) hsc) (.dma (dq q 0 1)) hsrc hdst hsem) fun _ =>
              .op (.enqueueDma (slotM q' 0) (.remote (Dev.tc n' : Thread nD τ) (slotM q' 1) (.dma (dq q' 0 0)) hsc') (.dma (dq q' 0 1)) hsrc' hdst' hsem') e) Q) := by
  iintro ⟨#HR, HO, HI, ⟨HM, Ho⟩, ⟨HM', Ho'⟩⟩ HK
  iapply (wp_loads m ρ c (4 * c.val + q.val) off hoff inb) $$ HI; iintro HI
  iapply (wp_put c q 0 (part m ρ c (4 * c.val + q.val)) rfl) $$ Ho; iintro Ho
  iapply (wp_loads m ρ c (4 * c.val + q'.val) off' hoff' inb') $$ HI; iintro HI
  iapply (wp_put c q' 0 (part m ρ c (4 * c.val + q'.val)) rfl) $$ Ho'; iintro Ho'
  iapply (wave_launch m ρ K c n n' q q' hqq 0 (by omega) hn hn' nn nn' hq hq' hnew (part m ρ c (4 * c.val + q.val)) (part m ρ c (4 * c.val + q'.val)) rfl rfl) $$ [HO HM HM' Ho Ho']
  · isplitr; · iexact HR
    isplitl [HO]; · iexact HO
    isplitl [HM]; · iexact HM
    isplitl [HM']; · iexact HM'
    isplitl [Ho]; · iexact Ho
    iexact Ho'
  iintro ⟨HO, HS, HS', -, -⟩
  iapply HK
  isplitl [HO]; · iexact HO
  isplitl [HI]; · iexact HI
  isplitl [HS]; · iexact HS
  iexact HS'

/-! ## What a device starts and ends with -/

/-- The device's share of the protocol at the start. -/
def start (K : Dev nD × Fin 66 → ℕ) (c : Dev nD) : sProp 𝕄 :=
  iprop(records m ρ K ∗ levAts L lv
    ∗ (dutyTok ER (barCell (prv c)) 0 true ∗ dutyTok ER (barCell (nxt c)) 0 false ∗ atPos ER (barCell c) 0 ∅ 0 ∗ cred (tallyAt (barCell c) () 2))
    ∗ (dutyTok ER (dcell c dwo) 0 false ∗ atPos ER (dcell c dwo) 0 ∅ 0)
    ∗ (bigSep Finset.univ fun q : Fin 4 => bigSep Finset.univ fun j : Fin 4 => iprop(dutyTok ER (outCell c q j) 0 false ∗ atPos ER (outCell c q j) 0 ∅ 0))
    ∗ (bigSep Finset.univ fun q : Fin 4 => bigSep (Finset.range 6) (RsT (F := F) c q)))

/-- The buffers the call does not stage: `Wo`, the result and the three scratch buffers. -/
def bufs (c : Dev nD) : sProp 𝕄 :=
  iprop((((c : Thread nD τ).loc main_arg1) ↦{fullShare} m ((c : Thread nD τ).loc main_arg1)) ∗ (((c : Thread nD τ).loc main_v1) ↦{fullShare} m ((c : Thread nD τ).loc main_v1))
    ∗ (∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

/-- At the end: every counter at zero, `Wo` as it was, the result, the scratch buffers. -/
def finish (c : Dev nD) : sProp 𝕄 :=
  iprop((bigSep Finset.univ fun i : Fin 66 => semVal (kcell (c, i)) 0)
    ∗ (((c : Thread nD τ).loc main_arg1) ↦{fullShare.left} m ((c : Thread nD τ).loc main_arg1)) ∗ (((c : Thread nD τ).loc main_v1) ↦{fullShare} outv m ρ c)
    ∗ (∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

/-! ## Counting the steps -/

/-- How many steps each strip has launched: those of the first wave `a`, of the second `b`. -/
def cnt (a b : ℕ) : Fin 4 → ℕ := fun q => if q.val % 2 = 0 then a else b
theorem cnt_fst (a b a' : ℕ) : cnt a' b = Function.update (Function.update (cnt a b) 0 a') 2 a' := by
  funext q; fin_cases q <;> rfl
theorem cnt_snd (a b b' : ℕ) : cnt a b' = Function.update (Function.update (cnt a b) 1 b') 3 b' := by
  funext q; fin_cases q <;> rfl
theorem cnt_le {n a b : ℕ} (ha : n ≤ a) (hb : n ≤ b) (r : Fin 4) : n ≤ cnt a b r := by unfold cnt; split <;> assumption
theorem owed_zero (c : Dev nD) : owedR c (cnt 6 6) = 0 := by
  unfold owedR
  refine Finset.sum_eq_zero fun q _ => ?_
  rw [Finset.Ico_eq_empty (by have := cnt_le (le_refl 6) (le_refl 6) q; omega), Finset.sum_empty]

/-! ## Dealing to the four strips and gathering -/

/-- A device's cells, one thing each. -/
theorem cells_gather (c : Dev nD) (Ψ : GSem nD τ sig → sProp 𝕄) :
    (bigSep Finset.univ fun i : Fin 66 => Ψ (kcell (c, i)))
      = iprop(Ψ (barCell c) ∗ Ψ (dcell c dwo) ∗ (bigSep Finset.univ fun q : Fin 4 => bigSep Finset.univ fun j : Fin 4 => Ψ (outCell c q j))
          ∗ (bigSep Finset.univ fun q : Fin 4 => bigSep (Finset.range 6) fun k => iprop(Ψ (sendCell c q k) ∗ Ψ (recvCell c q k)))) := by
  rw [cells_split (fun i : Fin 66 => Ψ (kcell (c, i)))]
  simp only [kcell_bar, kcell_dma c dwo (by decide), kcell_dma c _ (dout_ne _ _), kcell_dma c _ (dq_ne _ _ _)]

/-- The exchange buffer at the start: the first slot and the landing slots of each strip. -/
theorem slots_deal (c : Dev nD) :
    iprop(∃ f, ((c : Thread nD τ).loc cc0_scratch2) ↦{fullShare} f)
      ⊢ (bigSep Finset.univ fun q : Fin 4 => iprop(anySlot (F := F) c q 0 ∗ lands (F := F) c q) : sProp 𝕄) := by
  refine (slots_split c).trans ?_
  rw [bigSep_univ_prod (fun t : Fin 4 × Fin 7 => (anySlot (F := F) c t.1 t.2.val : sProp 𝕄)), bigSep_congr (fun q _ => lands_slots c q)]

/-- The rows of the result, with their copies' tokens, for each strip and slot. -/
theorem rows_deal (c : Dev nD) :
    (bigSep Finset.univ fun q : Fin 4 => iprop((bigSep Finset.univ fun j : Fin 4 => iprop(dutyTok ER (outCell c q j) 0 false ∗ atPos ER (outCell c q j) 0 ∅ 0))
        ∗ bigSep Finset.univ fun j : Fin 4 => iprop(∃ X, owns (c : Thread nD τ) (outM (outRow c q j)) fullShare X)) : sProp 𝕄)
      ⊢ iprop((OutRs c 0 0 ∗ OutRs c 0 1 ∗ OutRs c 0 2 ∗ OutRs c 0 3) ∗ (OutRs c 1 0 ∗ OutRs c 1 1 ∗ OutRs c 1 2 ∗ OutRs c 1 3)
          ∗ (OutRs c 2 0 ∗ OutRs c 2 1 ∗ OutRs c 2 2 ∗ OutRs c 2 3) ∗ (OutRs c 3 0 ∗ OutRs c 3 1 ∗ OutRs c 3 2 ∗ OutRs c 3 3)) := by
  refine (BI.bigSep_mono fun q _ => show _ ⊢ (bigSep Finset.univ fun j : Fin 4 => OutRs c q j : sProp 𝕄) from ?_).trans
    (Entails.of_eq ((bigSep_four _).trans (by simp only [bigSep_four])))
  rw [← bigSep_sep']
  refine BI.bigSep_mono fun j _ => show _ ⊢ (OutRs c q j : sProp 𝕄) from ?_
  unfold OutRs
  iintro ⟨⟨Ht, Ha⟩, Ho⟩
  isplitl [Ht]; · iexact Ht
  isplitl [Ha] <;> iassumption

/-- A strip that is through. -/
def Fin' (c : Dev nD) (q : Fin 4) : sProp 𝕄 :=
  iprop((Mid m ρ c q 6 ∗ owns (c : Thread nD τ) (slotM q 6) fullShare.left (acc m ρ q 6 c)) ∗ (bigSep Finset.univ fun j : Fin 4 => OutDn m ρ c q j))

/-- All four through: the cells at their next round, the exchange buffer, the result. -/
theorem gather (c : Dev nD) :
    (bigSep Finset.univ fun q : Fin 4 => Fin' m ρ c q)
      ⊢ iprop((bigSep Finset.univ fun q : Fin 4 => bigSep (Finset.range 6) fun k => iprop(atPos ER (sendCell c q k) 1 ∅ 0 ∗ atPos ER (recvCell c q k) 1 ∅ 0))
          ∗ (∃ f, ((c : Thread nD τ).loc cc0_scratch2) ↦{fullShare} f)
          ∗ (bigSep Finset.univ fun q : Fin 4 => bigSep Finset.univ fun j : Fin 4 => atPos ER (outCell c q j) 1 ∅ 0)
          ∗ (((c : Thread nD τ).loc main_v1) ↦{fullShare} outv m ρ c) : sProp 𝕄) := by
  refine (BI.bigSep_mono fun q _ => strip_end m ρ c q).trans ?_
  rw [bigSep_sep', bigSep_sep', bigSep_sep']
  refine BI.sep_mono (BI.Entails.refl _) (BI.sep_mono ?_ (BI.sep_mono (BI.Entails.refl _) (out_join m ρ c)))
  rw [← bigSep_univ_prod (fun t : Fin 4 × Fin 7 => (anySlot (F := F) c t.1 t.2.val : sProp 𝕄))]
  exact slots_join c

/-- The body from the launch's hand to `finish`. -/
theorem run_body (K : Dev nD × Fin 66 → ℕ) (c : Dev nD) (Q : PUnit → sProp 𝕄) :
    iprop(start m ρ K c ∗ bufs m c ∗ (((c : Thread nD τ).loc cc0_stg0_0) ↦{fullShare} xstg m ρ c) ∗ Ow c (O₀ c))
      ⊢ iprop(((finish m ρ c ∗ (((c : Thread nD τ).loc cc0_stg0_0) ↦{fullShare} xstg m ρ c) ∗ Ow c 0) -∗ Q ⟨⟩)
        -∗ Wp c (cc0_body (Memref.whole cc0_stg0_0) (Memref.isWhole_whole _) (Memref.whole main_arg1) (Memref.isWhole_whole _)
            (Memref.whole main_v1) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7) Q) := by
  simp only [cc0_body_eq_skeleton]; unfold cc0_body_skel
  simp only [k0_part47_eq_skeleton, k0_part47_skel, k0_part1_eq_skeleton, k0_part1_skel, k0_part2_eq_skeleton, k0_part2_skel, k0_part3_eq_skeleton, k0_part3_skel, semSignalWord, semWaitWord, Prog.lift, Prog.bind_op, Prog.bind_ret, Prog.pure_eq_ret, Prog.bind_assoc]
  unfold Wp
  simp only [wp_deviceId]
  rw [show (⟨k0_dev1 c, k0_dev1_lt c⟩ : Dev nD) = prv c from Fin.ext (devs_prv c k0_dev1 (by simp)),
    show (⟨k0_dev2 c, k0_dev2_lt c⟩ : Dev nD) = nxt c from Fin.ext (devs_nxt c k0_dev2 (by simp))]
  unfold start bufs
  iintro ⟨⟨#HR, #Hlev, ⟨HtP, HtN, HatB, HcB⟩, ⟨HtW, HatW⟩, Houts, Hstrips⟩, ⟨Hw, Hv, Hs0, ⟨%f1, Hs1⟩, Hs2⟩, Hx, HO⟩ HK
  ihave Hw2 := (pointsTo_share (PosShare.mem_left_op_right fullShare)).1 $$ Hw
  icases Hw2 with ⟨Hwl, Hwr⟩
  ihave Hv := (out_split c _) $$ Hv
  ihave Hs2 := ((slots_deal c).trans (Entails.of_eq (bigSep_four _))) $$ Hs2
  icases Hs2 with ⟨⟨S0, L0⟩, ⟨S1, L1⟩, ⟨S2, L2⟩, ⟨S3, L3⟩⟩
  -- the copy of `Wo`'s rows
  iapply (wp_copyWo m ρ K c fullShare.right) $$ [HtW Hwr Hs0]
  · isplitr; · iexact HR
    isplitl [HtW]; · iexact HtW
    isplitl [Hwr]; · iexact Hwr
    iexact Hs0
  iintro HcW
  -- the two signals, each with the landing slots the neighbour sends to
  unfold Ow O₀
  icases HO with ⟨%W, HO⟩
  ihave HRP := (rec_bar m ρ K (prv c)) $$ HR
  icases HRP with ⟨#HIP, #HrP⟩
  ihave HRN := (rec_bar m ρ K (nxt c)) $$ HR
  icases HRN with ⟨#HIN, #HrN⟩
  ihave HRC := (rec_bar m ρ K c) $$ HR
  icases HRC with ⟨#HIC, -⟩
  iapply (Rounds.wp_signal 𝒱₀ ER (ringRd m ρ) (c : Thread nD τ) none (dst := (prv c : Thread nD τ)) (κ := K (prv c, 0))
      (d := true) (by rw [duties_bar]; exact Finset.mem_univ _) ((amount_bar m ρ (prv c) true).trans (by decide)) ()
      (owedR c (fun _ => 0) + tallyAt (barCell (nxt c)) () 1) rfl) $$ [HO HtP L0 L1]
  · isplitr; · iexact HIP
    isplitl [HO]; · iexact HO
    isplitl [HtP]; · iexact HtP
    isplitl [L0 L1]
    · rw [show (ringRd m ρ).payload (barCell (prv c)) 0 true = iprop(lands (F := F) (nxt (prv c)) 0 ∗ lands (F := F) (nxt (prv c)) 1) from rfl, nxt_prv]
      isplitl [L0] <;> iassumption
    · iexact HrP
  iintro HO
  iapply (Rounds.wp_signal 𝒱₀ ER (ringRd m ρ) (c : Thread nD τ) none (dst := (nxt c : Thread nD τ)) (κ := K (nxt c, 0))
      (d := false) (by rw [duties_bar]; exact Finset.mem_univ _) ((amount_bar m ρ (nxt c) false).trans (by decide)) ()
      (owedR c (fun _ => 0)) rfl) $$ [HO HtN L2 L3]
  · isplitr; · iexact HIN
    isplitl [HO]; · iexact HO
    isplitl [HtN]; · iexact HtN
    isplitl [L2 L3]
    · rw [show (ringRd m ρ).payload (barCell (nxt c)) 0 false = iprop(lands (F := F) (prv (nxt c)) 2 ∗ lands (F := F) (prv (nxt c)) 3) from rfl, prv_nxt]
      isplitl [L2] <;> iassumption
    · iexact HrN
  iintro HO
  -- the barrier: the neighbours' landing slots
  iapply (Rounds.wp_wait_rest_token 𝒱₀ ER (ringRd m ρ) (c : Thread nD τ) none (κ := K (c, 0))
      (wpE_semWait_eq 𝒱₀ (c : Thread nD τ) none Set.univ) (Set.mem_univ _) () (O := owedR c (fun _ => 0)) (W := W) (R := 0) (m := 0) (T := ∅)
      (by rw [expect_bar]; decide)) $$ [HcB HO HatB]
  · isplitr; · iexact HIC
    isplitl [HcB]; · iexact HcB
    isplitl [HO]; · iexact HO
    isplitr; · iapply (mayWait_owedR c (fun _ => 0) (.reg barS) 1 rfl (fun _ => by decide)); iexact Hlev
    iexact HatB
  iintro ⟨HO, HatB, -, Hpay⟩
  ihave Hp := (Entails.of_eq (rest_bar m ρ c)) $$ Hpay
  ihave Hp := (show iprop(barPay (F := F) c false ∗ barPay (F := F) c true) ⊢ (iprop((lands (F := F) (dst 2 c) 2 ∗ lands (F := F) (dst 3 c) 3)
    ∗ (lands (F := F) (dst 0 c) 0 ∗ lands (F := F) (dst 1 c) 1)) : sProp 𝕄) from BI.Entails.refl _) $$ Hp
  icases Hp with ⟨⟨L2, L3⟩, ⟨L0, L1⟩⟩
  ihave HO := (show owes (c : Thread nD τ) (owedR c (fun _ => 0)) _ ⊢ (Ow (F := F) c (owedR c (cnt 0 0)) : sProp 𝕄) from by
    rw [show cnt 0 0 = fun _ => 0 from funext fun q => by unfold cnt; split <;> rfl]
    unfold Ow; iintro H; iexists _; iexact H) $$ HO
  -- `Wo`'s rows, rounded
  iapply (wp_waitD m ρ K c dwo (by decide) (cnt 0 0) 0 rfl (fun r => by omega) (wf_amt.trans dmaAmt_dwo.symm)) $$ [HO HatW HcW]
  · isplitr; · iexact HR
    isplitr; · iexact Hlev
    isplitl [HO]; · iexact HO
    isplitl [HatW]; · iexact HatW
    rw [dmaAmt_dwo]; iexact HcW
  iintro ⟨HO, HatW, Hpw⟩
  ihave Hs0 := (show dmaPay m ρ c dwo.val ⊢ (((c : Thread nD τ).loc cc0_scratch0) ↦{fullShare} woRows m c : sProp 𝕄) from
    (Entails.of_eq (pay_wo m ρ c)).trans (Entails.of_eq (owns_whole (c : Thread nD τ) cc0_scratch0 fullShare (woRows m c)))) $$ Hpw
  iapply (wp_load 𝒱₀ (c : Thread nD τ) none Set.univ (m := wfM) (Finset.subset_univ _)) $$ Hs0; iintro Hs0
  rw [show wfM.view.readAt (Elt F) wholeR.toLoadRect (woRows m c) = woRows m c from Memref.readAt_unit_zero (Elt F) cc0_scratch0 zero2 _ _]
  iapply (wp_load 𝒱₀ (c : Thread nD τ) none Set.univ (m := wbM) (Finset.subset_univ _)) $$ Hs1; iintro Hs1
  iapply (wp_store 𝒱₀ (c : Thread nD τ) none Set.univ (m := wbM) (r := wholeR) (Mk := Finset.univ) (Finset.subset_univ _)) $$ Hs1; iintro Hs1
  rw [show (wbM.access wholeR).write (Elt F) f1 (k0_pay1 (woRows m c)) Finset.univ = wob m c from Memref.write_access_unit_zero_univ (Elt F) cc0_scratch1 zero2 _ _ _]
  ihave HI := (show iprop((((c : Thread nD τ).loc cc0_stg0_0) ↦{fullShare} xstg m ρ c) ∗ (((c : Thread nD τ).loc cc0_scratch1) ↦{fullShare} wob m c)) ⊢ Ins m ρ c from BI.Entails.refl _) $$ [Hx Hs1]
  · isplitl [Hx] <;> iassumption
  -- each strip's tokens and landing slots
  ihave Hstrips := (Entails.of_eq (bigSep_four _)) $$ Hstrips
  icases Hstrips with ⟨T0, T1, T2, T3⟩
  ihave M0 := (strip_start m ρ c 0) $$ [T0 L0]
  · isplitl [T0] <;> iassumption
  ihave M1 := (strip_start m ρ c 1) $$ [T1 L1]
  · isplitl [T1] <;> iassumption
  ihave M2 := (strip_start m ρ c 2) $$ [T2 L2]
  · isplitl [T2] <;> iassumption
  ihave M3 := (strip_start m ρ c 3) $$ [T3 L3]
  · isplitl [T3] <;> iassumption
  iapply (wave_init m ρ K c _ _ 0 2 (by decide) (Fin.ext (devs_nxt c k0_dev3 (by simp))) (Fin.ext (devs_prv c k0_dev4 (by simp)))
    (cnt 0 0) (cnt 1 0) rfl rfl (cnt_fst 0 0 1) _ _ (off2_eq c 0) (off2_eq c 2) _ _) $$ [HO HI M0 S0 M2 S2]
  · isplitr; · iexact HR
    isplitl [HO]; · iexact HO
    isplitl [HI]; · iexact HI
    isplitl [M0 S0]; · isplitl [M0] <;> iassumption
    isplitl [M2] <;> iassumption
  iintro ⟨HO, HI, S0, S2⟩
  -- the rows of the result, dealt to the copies out
  ihave Ho := (Entails.of_eq ((bigSep_sep' (Finset.univ : Finset (Fin 4)) _ _).symm)) $$ [Houts Hv]
  · isplitl [Houts] <;> iassumption
  ihave Ho := (rows_deal c) $$ Ho
  icases Ho with ⟨⟨O00, O01, O02, O03⟩, ⟨O10, O11, O12, O13⟩, ⟨O20, O21, O22, O23⟩, ⟨O30, O31, O32, O33⟩⟩
  simp only [k0_part4_eq_skeleton, k0_part4_skel, k0_part5_eq_skeleton, k0_part5_skel,
    Prog.lift, Prog.bind_op, Prog.bind_ret, Prog.pure_eq_ret, Prog.bind_assoc]
  iapply (wave_init m ρ K c _ _ 1 3 (by decide) (Fin.ext (devs_nxt c k0_dev5 (by simp))) (Fin.ext (devs_prv c k0_dev6 (by simp)))
    (cnt 1 0) (cnt 1 1) rfl rfl (cnt_snd 1 0 1) _ _ (off2_eq c 1) (off2_eq c 3) _ _) $$ [HO HI M1 S1 M3 S3]
  · isplitr; · iexact HR
    isplitl [HO]; · iexact HO
    isplitl [HI]; · iexact HI
    isplitl [M1 S1]; · isplitl [M1] <;> iassumption
    isplitl [M3] <;> iassumption
  iintro ⟨HO, HI, S1, S3⟩
  simp only [k0_part6_eq_skeleton, k0_part6_skel, k0_part7_eq_skeleton, k0_part7_skel, k0_part8_eq_skeleton, k0_part8_skel,
    Prog.lift, Prog.bind_op, Prog.bind_ret, Prog.pure_eq_ret, Prog.bind_assoc]
  iapply (round_add m ρ K c _ _ 0 2 (by decide) 0 (by decide) (Fin.ext (devs_nxt c k0_dev7 (by simp))) (Fin.ext (devs_prv c k0_dev8 (by simp)))
    (cnt 1 1) (cnt 2 1) (cnt_le (by omega) (by omega)) rfl rfl (cnt_fst 1 1 2) _ _ (off3_eq c 0 0) (off4_eq c 0 0) _ _) $$ [HO HI S0 S2]
  · isplitr; · iexact HR
    isplitr; · iexact Hlev
    isplitl [HO]; · iexact HO
    isplitl [HI]; · iexact HI
    isplitl [S0] <;> iassumption
  iintro ⟨HO, HI, S0, S2, -, -⟩
  simp only [k0_part9_eq_skeleton, k0_part9_skel, k0_part10_eq_skeleton, k0_part10_skel, k0_part11_eq_skeleton, k0_part11_skel, k0_part12_eq_skeleton, k0_part12_skel,
    Prog.lift, Prog.bind_op, Prog.bind_ret, Prog.pure_eq_ret, Prog.bind_assoc]
  iapply (round_add m ρ K c _ _ 1 3 (by decide) 0 (by decide) (Fin.ext (devs_nxt c k0_dev9 (by simp))) (Fin.ext (devs_prv c k0_dev10 (by simp)))
    (cnt 2 1) (cnt 2 2) (cnt_le (by omega) (by omega)) rfl rfl (cnt_snd 2 1 2) _ _ (off3_eq c 0 1) (off4_eq c 0 1) _ _) $$ [HO HI S1 S3]
  · isplitr; · iexact HR
    isplitr; · iexact Hlev
    isplitl [HO]; · iexact HO
    isplitl [HI]; · iexact HI
    isplitl [S1] <;> iassumption
  iintro ⟨HO, HI, S1, S3, -, -⟩
  simp only [k0_part13_eq_skeleton, k0_part13_skel, k0_part14_eq_skeleton, k0_part14_skel, k0_part15_eq_skeleton, k0_part15_skel,
    Prog.lift, Prog.bind_op, Prog.bind_ret, Prog.pure_eq_ret, Prog.bind_assoc]
  iapply (round_add m ρ K c _ _ 0 2 (by decide) 1 (by decide) (Fin.ext (devs_nxt c k0_dev11 (by simp))) (Fin.ext (devs_prv c k0_dev12 (by simp)))
    (cnt 2 2) (cnt 3 2) (cnt_le (by omega) (by omega)) rfl rfl (cnt_fst 2 2 3) _ _ (off3_eq c 1 0) (off4_eq c 1 0) _ _) $$ [HO HI S0 S2]
  · isplitr; · iexact HR
    isplitr; · iexact Hlev
    isplitl [HO]; · iexact HO
    isplitl [HI]; · iexact HI
    isplitl [S0] <;> iassumption
  iintro ⟨HO, HI, S0, S2, -, -⟩
  simp only [k0_part16_eq_skeleton, k0_part16_skel, k0_part17_eq_skeleton, k0_part17_skel, k0_part18_eq_skeleton, k0_part18_skel,
    Prog.lift, Prog.bind_op, Prog.bind_ret, Prog.pure_eq_ret, Prog.bind_assoc]
  iapply (round_add m ρ K c _ _ 1 3 (by decide) 1 (by decide) (Fin.ext (devs_nxt c k0_dev13 (by simp))) (Fin.ext (devs_prv c k0_dev14 (by simp)))
    (cnt 3 2) (cnt 3 3) (cnt_le (by omega) (by omega)) rfl rfl (cnt_snd 3 2 3) _ _ (off3_eq c 1 1) (off4_eq c 1 1) _ _) $$ [HO HI S1 S3]
  · isplitr; · iexact HR
    isplitr; · iexact Hlev
    isplitl [HO]; · iexact HO
    isplitl [HI]; · iexact HI
    isplitl [S1] <;> iassumption
  iintro ⟨HO, HI, S1, S3, -, -⟩
  simp only [k0_part19_eq_skeleton, k0_part19_skel, k0_part20_eq_skeleton, k0_part20_skel, k0_part21_eq_skeleton, k0_part21_skel, k0_part22_eq_skeleton, k0_part22_skel,
    Prog.lift, Prog.bind_op, Prog.bind_ret, Prog.pure_eq_ret, Prog.bind_assoc]
  iapply (round_add m ρ K c _ _ 0 2 (by decide) 2 (by decide) (Fin.ext (devs_nxt c k0_dev15 (by simp))) (Fin.ext (devs_prv c k0_dev16 (by simp)))
    (cnt 3 3) (cnt 4 3) (cnt_le (by omega) (by omega)) rfl rfl (cnt_fst 3 3 4) _ _ (off3_eq c 2 0) (off4_eq c 2 0) _ _) $$ [HO HI S0 S2]
  · isplitr; · iexact HR
    isplitr; · iexact Hlev
    isplitl [HO]; · iexact HO
    isplitl [HI]; · iexact HI
    isplitl [S0] <;> iassumption
  iintro ⟨HO, HI, S0, S2, X0, X2⟩
  simp only [k0_part23_eq_skeleton, k0_part23_skel, k0_part24_eq_skeleton, k0_part24_skel, k0_part25_eq_skeleton, k0_part25_skel,
    Prog.lift, Prog.bind_op, Prog.bind_ret, Prog.pure_eq_ret, Prog.bind_assoc]
  iapply (round_add m ρ K c _ _ 1 3 (by decide) 2 (by decide) (Fin.ext (devs_nxt c k0_dev17 (by simp))) (Fin.ext (devs_prv c k0_dev18 (by simp)))
    (cnt 4 3) (cnt 4 4) (cnt_le (by omega) (by omega)) rfl rfl (cnt_snd 4 3 4) _ _ (off3_eq c 2 1) (off4_eq c 2 1) _ _) $$ [HO HI S1 S3]
  · isplitr; · iexact HR
    isplitr; · iexact Hlev
    isplitl [HO]; · iexact HO
    isplitl [HI]; · iexact HI
    isplitl [S1] <;> iassumption
  iintro ⟨HO, HI, S1, S3, X1, X3⟩
  simp only [k0_part26_eq_skeleton, k0_part26_skel, k0_part27_eq_skeleton, k0_part27_skel,
    Prog.lift, Prog.bind_op, Prog.bind_ret, Prog.pure_eq_ret, Prog.bind_assoc]
  iapply (round_pass m ρ K c _ _ 0 2 (by decide) 3 (by decide) (by decide) (Fin.ext (devs_nxt c k0_dev19 (by simp))) (Fin.ext (devs_prv c k0_dev20 (by simp)))
    (cnt 4 4) (cnt 5 4) (cnt_le (by omega) (by omega)) rfl rfl (cnt_fst 4 4 5)) $$ [HO S0 S2]
  · isplitr; · iexact HR
    isplitr; · iexact Hlev
    isplitl [HO]; · iexact HO
    isplitl [S0] <;> iassumption
  iintro ⟨HO, S0, S2, Y0, Y2⟩
  simp only [k0_part28_eq_skeleton, k0_part28_skel,
    Prog.lift, Prog.bind_op, Prog.bind_ret, Prog.pure_eq_ret, Prog.bind_assoc]
  iapply (wave_out m ρ K c 0 2 0 _ _ (off5_cw c 0) (off6_ccw c 0) _ _) $$ [O00 O20 X0 X2]
  · isplitr; · iexact HR
    isplitl [O00]; · iexact O00
    isplitl [O20]; · iexact O20
    isplitl [X0] <;> iassumption
  iintro ⟨O00, O20⟩
  simp only [k0_part29_eq_skeleton, k0_part29_skel,
    Prog.lift, Prog.bind_op, Prog.bind_ret, Prog.pure_eq_ret, Prog.bind_assoc]
  iapply (wave_out m ρ K c 0 2 1 _ _ (off6_cw c 0 0) (off5_ccw c 0 0) _ _) $$ [O01 O21 Y0 Y2]
  · isplitr; · iexact HR
    isplitl [O01]; · iexact O01
    isplitl [O21]; · iexact O21
    isplitl [Y0] <;> iassumption
  iintro ⟨O01, O21⟩
  simp only [k0_part30_eq_skeleton, k0_part30_skel, k0_part31_eq_skeleton, k0_part31_skel,
    Prog.lift, Prog.bind_op, Prog.bind_ret, Prog.pure_eq_ret, Prog.bind_assoc]
  iapply (round_pass m ρ K c _ _ 1 3 (by decide) 3 (by decide) (by decide) (Fin.ext (devs_nxt c k0_dev21 (by simp))) (Fin.ext (devs_prv c k0_dev22 (by simp)))
    (cnt 5 4) (cnt 5 5) (cnt_le (by omega) (by omega)) rfl rfl (cnt_snd 5 4 5)) $$ [HO S1 S3]
  · isplitr; · iexact HR
    isplitr; · iexact Hlev
    isplitl [HO]; · iexact HO
    isplitl [S1] <;> iassumption
  iintro ⟨HO, S1, S3, Y1, Y3⟩
  simp only [k0_part32_eq_skeleton, k0_part32_skel,
    Prog.lift, Prog.bind_op, Prog.bind_ret, Prog.pure_eq_ret, Prog.bind_assoc]
  iapply (wave_out m ρ K c 1 3 0 _ _ (off5_cw c 1) (off6_ccw c 1) _ _) $$ [O10 O30 X1 X3]
  · isplitr; · iexact HR
    isplitl [O10]; · iexact O10
    isplitl [O30]; · iexact O30
    isplitl [X1] <;> iassumption
  iintro ⟨O10, O30⟩
  simp only [k0_part33_eq_skeleton, k0_part33_skel,
    Prog.lift, Prog.bind_op, Prog.bind_ret, Prog.pure_eq_ret, Prog.bind_assoc]
  iapply (wave_out m ρ K c 1 3 1 _ _ (off6_cw c 0 1) (off5_ccw c 0 1) _ _) $$ [O11 O31 Y1 Y3]
  · isplitr; · iexact HR
    isplitl [O11]; · iexact O11
    isplitl [O31]; · iexact O31
    isplitl [Y1] <;> iassumption
  iintro ⟨O11, O31⟩
  simp only [k0_part34_eq_skeleton, k0_part34_skel, k0_part35_eq_skeleton, k0_part35_skel,
    Prog.lift, Prog.bind_op, Prog.bind_ret, Prog.pure_eq_ret, Prog.bind_assoc]
  iapply (round_pass m ρ K c _ _ 0 2 (by decide) 4 (by decide) (by decide) (Fin.ext (devs_nxt c k0_dev23 (by simp))) (Fin.ext (devs_prv c k0_dev24 (by simp)))
    (cnt 5 5) (cnt 6 5) (cnt_le (by omega) (by omega)) rfl rfl (cnt_fst 5 5 6)) $$ [HO S0 S2]
  · isplitr; · iexact HR
    isplitr; · iexact Hlev
    isplitl [HO]; · iexact HO
    isplitl [S0] <;> iassumption
  iintro ⟨HO, S0, S2, Y0, Y2⟩
  simp only [k0_part36_eq_skeleton, k0_part36_skel,
    Prog.lift, Prog.bind_op, Prog.bind_ret, Prog.pure_eq_ret, Prog.bind_assoc]
  iapply (wave_out m ρ K c 0 2 2 _ _ (off6_cw c 1 0) (off5_ccw c 1 0) _ _) $$ [O02 O22 Y0 Y2]
  · isplitr; · iexact HR
    isplitl [O02]; · iexact O02
    isplitl [O22]; · iexact O22
    isplitl [Y0] <;> iassumption
  iintro ⟨O02, O22⟩
  simp only [k0_part37_eq_skeleton, k0_part37_skel, k0_part38_eq_skeleton, k0_part38_skel,
    Prog.lift, Prog.bind_op, Prog.bind_ret, Prog.pure_eq_ret, Prog.bind_assoc]
  iapply (round_pass m ρ K c _ _ 1 3 (by decide) 4 (by decide) (by decide) (Fin.ext (devs_nxt c k0_dev25 (by simp))) (Fin.ext (devs_prv c k0_dev26 (by simp)))
    (cnt 6 5) (cnt 6 6) (cnt_le (by omega) (by omega)) rfl rfl (cnt_snd 6 5 6)) $$ [HO S1 S3]
  · isplitr; · iexact HR
    isplitr; · iexact Hlev
    isplitl [HO]; · iexact HO
    isplitl [S1] <;> iassumption
  iintro ⟨HO, S1, S3, Y1, Y3⟩
  simp only [k0_part39_eq_skeleton, k0_part39_skel,
    Prog.lift, Prog.bind_op, Prog.bind_ret, Prog.pure_eq_ret, Prog.bind_assoc]
  iapply (wave_out m ρ K c 1 3 2 _ _ (off6_cw c 1 1) (off5_ccw c 1 1) _ _) $$ [O12 O32 Y1 Y3]
  · isplitr; · iexact HR
    isplitl [O12]; · iexact O12
    isplitl [O32]; · iexact O32
    isplitl [Y1] <;> iassumption
  iintro ⟨O12, O32⟩
  simp only [k0_part40_eq_skeleton, k0_part40_skel,
    Prog.lift, Prog.bind_op, Prog.bind_ret, Prog.pure_eq_ret, Prog.bind_assoc]
  iapply (round_last m ρ K c 0 2 (cnt 6 6) (cnt_le (by omega) (by omega))) $$ [HO S0 S2]
  · isplitr; · iexact HR
    isplitr; · iexact Hlev
    isplitl [HO]; · iexact HO
    isplitl [S0] <;> iassumption
  iintro ⟨HO, S0, S2, X0, X2⟩
  simp only [k0_part41_eq_skeleton, k0_part41_skel, k0_part42_eq_skeleton, k0_part42_skel,
    Prog.lift, Prog.bind_op, Prog.bind_ret, Prog.pure_eq_ret, Prog.bind_assoc]
  iapply (wave_out m ρ K c 0 2 3 _ _ (off6_cw c 2 0) (off5_ccw c 2 0) _ _) $$ [O03 O23 X0 X2]
  · isplitr; · iexact HR
    isplitl [O03]; · iexact O03
    isplitl [O23]; · iexact O23
    isplitl [X0] <;> iassumption
  iintro ⟨O03, O23⟩
  simp only [k0_part43_eq_skeleton, k0_part43_skel,
    Prog.lift, Prog.bind_op, Prog.bind_ret, Prog.pure_eq_ret, Prog.bind_assoc]
  iapply (round_last m ρ K c 1 3 (cnt 6 6) (cnt_le (by omega) (by omega))) $$ [HO S1 S3]
  · isplitr; · iexact HR
    isplitr; · iexact Hlev
    isplitl [HO]; · iexact HO
    isplitl [S1] <;> iassumption
  iintro ⟨HO, S1, S3, X1, X3⟩
  simp only [k0_part44_eq_skeleton, k0_part44_skel,
    Prog.lift, Prog.bind_op, Prog.bind_ret, Prog.pure_eq_ret, Prog.bind_assoc]
  iapply (wave_out m ρ K c 1 3 3 _ _ (off6_cw c 2 1) (off5_ccw c 2 1) _ _) $$ [O13 O33 X1 X3]
  · isplitr; · iexact HR
    isplitl [O13]; · iexact O13
    isplitl [O33]; · iexact O33
    isplitl [X1] <;> iassumption
  iintro ⟨O13, O33⟩
  simp only [k0_part45_eq_skeleton, k0_part45_skel, k0_part46_eq_skeleton, k0_part46_skel,
    Prog.lift, Prog.bind_op, Prog.bind_ret, Prog.pure_eq_ret, Prog.bind_assoc]
  -- the copies out have landed
  iapply (out_wait m ρ K c 0 0 (cnt 6 6) (by rfl)) $$ [HO O00]
  · isplitr; · iexact HR
    isplitr; · iexact Hlev
    isplitl [HO] <;> iassumption
  iintro ⟨HO, O00⟩
  iapply (out_wait m ρ K c 2 0 (cnt 6 6) (by rfl)) $$ [HO O20]
  · isplitr; · iexact HR
    isplitr; · iexact Hlev
    isplitl [HO] <;> iassumption
  iintro ⟨HO, O20⟩
  iapply (out_wait m ρ K c 0 1 (cnt 6 6) (by rfl)) $$ [HO O01]
  · isplitr; · iexact HR
    isplitr; · iexact Hlev
    isplitl [HO] <;> iassumption
  iintro ⟨HO, O01⟩
  iapply (out_wait m ρ K c 2 1 (cnt 6 6) (by rfl)) $$ [HO O21]
  · isplitr; · iexact HR
    isplitr; · iexact Hlev
    isplitl [HO] <;> iassumption
  iintro ⟨HO, O21⟩
  iapply (out_wait m ρ K c 1 0 (cnt 6 6) (by rfl)) $$ [HO O10]
  · isplitr; · iexact HR
    isplitr; · iexact Hlev
    isplitl [HO] <;> iassumption
  iintro ⟨HO, O10⟩
  iapply (out_wait m ρ K c 3 0 (cnt 6 6) (by rfl)) $$ [HO O30]
  · isplitr; · iexact HR
    isplitr; · iexact Hlev
    isplitl [HO] <;> iassumption
  iintro ⟨HO, O30⟩
  iapply (out_wait m ρ K c 1 1 (cnt 6 6) (by rfl)) $$ [HO O11]
  · isplitr; · iexact HR
    isplitr; · iexact Hlev
    isplitl [HO] <;> iassumption
  iintro ⟨HO, O11⟩
  iapply (out_wait m ρ K c 3 1 (cnt 6 6) (by rfl)) $$ [HO O31]
  · isplitr; · iexact HR
    isplitr; · iexact Hlev
    isplitl [HO] <;> iassumption
  iintro ⟨HO, O31⟩
  iapply (out_wait m ρ K c 0 2 (cnt 6 6) (by rfl)) $$ [HO O02]
  · isplitr; · iexact HR
    isplitr; · iexact Hlev
    isplitl [HO] <;> iassumption
  iintro ⟨HO, O02⟩
  iapply (out_wait m ρ K c 2 2 (cnt 6 6) (by rfl)) $$ [HO O22]
  · isplitr; · iexact HR
    isplitr; · iexact Hlev
    isplitl [HO] <;> iassumption
  iintro ⟨HO, O22⟩
  iapply (out_wait m ρ K c 1 2 (cnt 6 6) (by rfl)) $$ [HO O12]
  · isplitr; · iexact HR
    isplitr; · iexact Hlev
    isplitl [HO] <;> iassumption
  iintro ⟨HO, O12⟩
  iapply (out_wait m ρ K c 3 2 (cnt 6 6) (by rfl)) $$ [HO O32]
  · isplitr; · iexact HR
    isplitr; · iexact Hlev
    isplitl [HO] <;> iassumption
  iintro ⟨HO, O32⟩
  iapply (out_wait m ρ K c 0 3 (cnt 6 6) (by rfl)) $$ [HO O03]
  · isplitr; · iexact HR
    isplitr; · iexact Hlev
    isplitl [HO] <;> iassumption
  iintro ⟨HO, O03⟩
  iapply (out_wait m ρ K c 2 3 (cnt 6 6) (by rfl)) $$ [HO O23]
  · isplitr; · iexact HR
    isplitr; · iexact Hlev
    isplitl [HO] <;> iassumption
  iintro ⟨HO, O23⟩
  iapply (out_wait m ρ K c 1 3 (cnt 6 6) (by rfl)) $$ [HO O13]
  · isplitr; · iexact HR
    isplitr; · iexact Hlev
    isplitl [HO] <;> iassumption
  iintro ⟨HO, O13⟩
  iapply (out_wait m ρ K c 3 3 (cnt 6 6) (by rfl)) $$ [HO O33]
  · isplitr; · iexact HR
    isplitr; · iexact Hlev
    isplitl [HO] <;> iassumption
  iintro ⟨HO, O33⟩
  -- everything gathered
  ihave HG := (Entails.of_eq (bigSep_four (Fin' m ρ c)).symm) $$ [S0 S1 S2 S3 O00 O01 O02 O03 O10 O11 O12 O13 O20 O21 O22 O23 O30 O31 O32 O33]
  · unfold Fin'
    isplitl [S0 O00 O01 O02 O03]
    · isplitl [S0]; · iexact S0
      rw [bigSep_four]; isplitl [O00]; · iexact O00
      isplitl [O01]; · iexact O01
      isplitl [O02] <;> iassumption
    isplitl [S1 O10 O11 O12 O13]
    · isplitl [S1]; · iexact S1
      rw [bigSep_four]; isplitl [O10]; · iexact O10
      isplitl [O11]; · iexact O11
      isplitl [O12] <;> iassumption
    isplitl [S2 O20 O21 O22 O23]
    · isplitl [S2]; · iexact S2
      rw [bigSep_four]; isplitl [O20]; · iexact O20
      isplitl [O21]; · iexact O21
      isplitl [O22] <;> iassumption
    isplitl [S3]; · iexact S3
    rw [bigSep_four]; isplitl [O30]; · iexact O30
    isplitl [O31]; · iexact O31
    isplitl [O32] <;> iassumption
  ihave HG := (gather m ρ c) $$ HG
  icases HG with ⟨Hdq, Hs2, Hout, Hv⟩
  ihave HA := (Entails.of_eq (cells_gather c (fun g => iprop(atPos ER g 1 ∅ 0))).symm) $$ [HatB HatW Hout Hdq]
  · isplitl [HatB]; · iexact HatB
    isplitl [HatW]; · iexact HatW
    isplitl [Hout] <;> iassumption
  ihave HA := (cells_close m ρ K c) $$ [HA]
  · isplitr; · iexact HR
    iexact HA
  unfold Wp; rw [wp_ret]
  imod HA with HA
  imodintro
  iapply HK
  unfold finish Ins Ow
  icases HI with ⟨Hx, Hs1⟩
  isplitr [Hx HO]
  · isplitl [HA]; · iexact HA
    isplitl [Hwl]; · iexact Hwl
    isplitl [Hv]; · iexact Hv
    isplitl [Hs0]; · iexists _; iexact Hs0
    isplitl [Hs1]; · iexists _; iexact Hs1
    iexact Hs2
  isplitl [Hx]; · iexact Hx
  rw [owed_zero c]
  iexact HO

end Cert.AllReduce

end
-- ==== Proof.Launch.lean ====
/- The launch of the all-reduce: the ghost state dealt to the four devices, the launch credits, and the run of
   the whole call on the compiled mesh. -/
module

public import proofs.«01_k».proof.Proof.Body
public import Idealize.ShloMosaic.Lib.Pipeline.CollectiveSegs

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The call's one point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the body starts from: the ghost state at some names, and the buffers. -/
def Φ₀ (c : Dev nD) : sProp 𝕄 := iprop((∃ K, start m ρ K c) ∗ bufs m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
  Φ t := match t with
    | ⟨0, _⟩ => Φ₀ m ρ c
    | ⟨_ + 1, _⟩ => finish m ρ c
  q _ := fullShare
  owed t := match t with
    | ⟨0, _⟩ => O₀ c
    | ⟨_ + 1, _⟩ => 0

theorem fetch_0 (t : Fin cfg0.N) : (cfg0.win (0 : Fin 1)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staged block of the context, at the contents `X`. -/
abbrev stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

def bodyPre (c : Dev nD) : sProp 𝕄 :=
  iprop(Φ₀ m ρ c ∗ (dats m ρ 0 c).owesAt () t₀.castSucc ∗ (∃ d, stg c ((dats m ρ 0 c).before (0 : Fin 1) t₀ d)))
def bodyPost (c : Dev nD) : sProp 𝕄 :=
  iprop(finish m ρ c ∗ (dats m ρ 0 c).owesAt () t₀.succ ∗ stg c (xstg m ρ c))

set_option maxRecDepth 40000 in
/-- The body's obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ Wp c (cc0_body (Memref.whole cc0_stg0_0) (Memref.isWhole_whole _) (Memref.whole main_arg1) (Memref.isWhole_whole _)
            (Memref.whole main_v1) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7) (fun _ => bodyPost m ρ c)
  unfold bodyPre Φ₀ Dat.owesAt Pipeline.owesWithin
  iintro ⟨⟨⟨%K, Hs⟩, Hb⟩, ⟨%W, -, HO⟩, ⟨%d, %f, %hf, Hx⟩⟩
  have hx : f = xstg m ρ c := by rw [hf]; unfold Dat.before; rw [if_pos (fetch_0 t₀)]; rfl
  subst hx
  iapply (run_body m ρ K c (fun _ => bodyPost m ρ c)) $$ [Hs Hb Hx HO]
  · isplitl [Hs]; · iexact Hs
    isplitl [Hb]; · iexact Hb
    isplitl [Hx]; · iexact Hx
    unfold Ow
    iexists W; iexact HO
  unfold bodyPost Dat.owesAt Pipeline.owesWithin Ow
  iintro ⟨Hf, Hx, ⟨%W', HO⟩⟩
  isplitl [Hf]; · iexact Hf
  isplitl [HO]
  · iexists W'
    isplitr; · ipureintro; exact fun _ _ => Or.inl trivial
    iexact HO
  iexists _; isplitr; · (ipureintro; rfl)
  iexact Hx

/-! ## The cells and their tokens -/

/-- The kernel's own semaphores: the DMA semaphores but the staging one. -/
def osem (i : Fin 65) : SemLoc sig := csem i.succ

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by
  intro i j h
  unfold csem at h
  split at h <;> split at h
  · exact Fin.ext (by omega)
  · cases h
  · cases h
  · exact SemLoc.dma.inj h
theorem kcell_injective : Function.Injective (kcell : Dev nD × Fin 66 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- Both duties' tokens of every cell (only the barrier cells' `true` are of use). -/
def tokOf (ck : (Dev nD × Bool) × Fin 66) : GSem nD τ sig × ℕ × Bool := (kcell (ck.1.1, ck.2), 0, ck.1.2)
theorem tokOf_injective : Function.Injective tokOf := by
  rintro ⟨⟨c, b⟩, k⟩ ⟨⟨c', b'⟩, k'⟩ h
  have h1 := kcell_injective (congrArg Prod.fst h)
  have h2 : b = b' := congrArg (fun x : GSem nD τ sig × ℕ × Bool => x.2.2) h
  cases h1; rw [h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 :=
  iprop((bigSep Finset.univ fun i : Fin 66 => dutyTok ER (kcell (c, i)) 0 false) ∗ bigSep Finset.univ fun i : Fin 66 => dutyTok ER (kcell (c, i)) 0 true)

/-- What the launch element deals device `c`. -/
def G (c : Dev nD) : sProp 𝕄 :=
  iprop((bigSep Finset.univ fun k : Fin 66 => roundState ER (ringRd m ρ) (kcell (c, k)) 0)
    ∗ (bigSep Finset.univ fun k : Fin 66 => atPos ER (kcell (c, k)) 0 ∅ 0) ∗ (bigSep Finset.univ fun k : Fin 66 => reached ER (kcell (c, k)) 0) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 66 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]
    exact bigSep_congr fun c _ => by
      unfold toks
      rw [bigSep_univ_eq_bigSepL [false, true] (by decide) (by decide), bigSepL_cons_cons, bigSepL_singleton]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- The kernel's own semaphores and the runtime's barrier semaphore are the device's cells. -/
theorem sems0_eq (c : Dev nD) :
    (bigSep Finset.univ fun k : Fin 66 => semVal (kcell (c, k)) 0 : sProp 𝕄)
      = iprop(unscopedSems0 c ∗ Pipeline.ownSems0 (Ix := Unit) (Name := ℕ) (U := UU) (Lvl := ℕ) (Val := Elt F) (τ := τ) osem c) := by
  have hu : (unscopedSems0 c : sProp 𝕄) = semVal (kcell (c, 0)) 0 := by
    unfold unscopedSems0; rw [bigSep_eq_bigSepL_of_eq [SemLoc.reg barS] (by decide) (by decide)]; rfl
  have he : (Finset.univ : Finset (Fin 66)).erase 0 = (Finset.univ : Finset (Fin 65)).map (Fin.succEmb 65) := by decide
  rw [hu, bigSep_univ_at (fun k : Fin 66 => (semVal (kcell (c, k)) 0 : sProp 𝕄)) 0, he, bigSep_map]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k : Fin 66 => atPos ER (kcell (c, k)) 0 ∅ 0) ∗ (bigSep Finset.univ fun k : Fin 66 => reached ER (kcell (c, k)) 0) ∗ toks c) := by
  unfold G
  iintro ⟨Hos, Hus, Hst, Hat, Hr, Htok⟩
  ihave Hv := (Entails.of_eq (sems0_eq (F := F) c).symm) $$ [Hos Hus]
  · isplitl [Hus] <;> iassumption
  imod (show iprop((bigSep Finset.univ fun k : Fin 66 => semVal (kcell (c, k)) 0) ∗ bigSep Finset.univ fun k : Fin 66 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (BI.bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-! ## The tokens dealt around the ring -/

/-- The tokens device `c` pays with. -/
def payToks (c : Dev nD) : sProp 𝕄 :=
  iprop(dutyTok ER (barCell (prv c)) 0 true ∗ dutyTok ER (barCell (nxt c)) 0 false ∗ dutyTok ER (dcell c dwo) 0 false
    ∗ (bigSep Finset.univ fun q : Fin 4 => bigSep Finset.univ fun j : Fin 4 => dutyTok ER (outCell c q j) 0 false)
    ∗ (bigSep Finset.univ fun q : Fin 4 => bigSep (Finset.range 6) fun k => dutyTok ER (sendCell c q k) 0 false)
    ∗ (bigSep Finset.univ fun q : Fin 4 => bigSep (Finset.range 6) fun k => dutyTok ER (recvCell (dst q c) q k) 0 false))

/-- A family over devices and strips, each strip's turned one device on. -/
theorem around_all (Φ : Dev nD → Fin 4 → sProp 𝕄) :
    (bigSep Finset.univ fun c : Dev nD => bigSep Finset.univ fun q : Fin 4 => Φ c q)
      = bigSep Finset.univ fun c : Dev nD => bigSep Finset.univ fun q : Fin 4 => Φ (dst q c) q := by
  let e : Dev nD × Fin 4 ≃ Dev nD × Fin 4 :=
    ⟨fun x => (dst x.2 x.1, x.2), fun x => (src x.2 x.1, x.2), fun x => by simp only [src_dst], fun x => by simp only [dst_src]⟩
  rw [← bigSep_univ_prod (fun x : Dev nD × Fin 4 => Φ x.1 x.2), bigSep_univ_equiv e, bigSep_univ_prod]
  rfl

theorem toks_around : (bigSep Finset.univ fun c : Dev nD => (toks c : sProp 𝕄)) ⊢ bigSep Finset.univ fun c : Dev nD => payToks c := by
  refine (BI.bigSep_mono (Ψ := fun c : Dev nD => iprop(dutyTok ER (barCell c) 0 true ∗ dutyTok ER (barCell c) 0 false ∗ dutyTok ER (dcell c dwo) 0 false
    ∗ (bigSep Finset.univ fun q : Fin 4 => bigSep Finset.univ fun j : Fin 4 => dutyTok ER (outCell c q j) 0 false)
    ∗ (bigSep Finset.univ fun q : Fin 4 => bigSep (Finset.range 6) fun k => dutyTok ER (sendCell c q k) 0 false)
    ∗ (bigSep Finset.univ fun q : Fin 4 => bigSep (Finset.range 6) fun k => dutyTok ER (recvCell c q k) 0 false))) fun c _ => show toks c ⊢ _ from ?_).trans ?_
  · unfold toks
    rw [cells_gather c (fun g => (dutyTok ER g 0 false : sProp 𝕄)),
      bigSep_congr (s := (Finset.univ : Finset (Fin 4))) (fun q _ => bigSep_sep' (Finset.range 6) (fun k => (dutyTok ER (sendCell c q k) 0 false : sProp 𝕄)) (fun k => dutyTok ER (recvCell c q k) 0 false)),
      bigSep_sep']
    iintro ⟨⟨H1, H2, H3, H4, H5⟩, Ht⟩
    ihave Ht := (show (bigSep Finset.univ fun i : Fin 66 => dutyTok ER (kcell (c, i)) 0 true : sProp 𝕄) ⊢ dutyTok ER (kcell (c, 0)) 0 true from
      bigSep_elim (Finset.mem_univ (0 : Fin 66))) $$ Ht
    isplitl [Ht]; · iexact Ht
    isplitl [H1]; · iexact H1
    isplitl [H2]; · iexact H2
    isplitl [H3]; · iexact H3
    isplitl [H4] <;> iassumption
  · unfold payToks
    simp only [bigSep_sep']
    refine BI.sep_mono (Entails.of_eq (bigSep_univ_equiv (around 0).symm (fun c : Dev nD => (dutyTok ER (barCell c) 0 true : sProp 𝕄)))) ?_
    refine BI.sep_mono (Entails.of_eq (bigSep_univ_equiv (around 0) (fun c : Dev nD => (dutyTok ER (barCell c) 0 false : sProp 𝕄)))) ?_
    refine BI.sep_mono (BI.Entails.refl _) (BI.sep_mono (BI.Entails.refl _) (BI.sep_mono (BI.Entails.refl _) ?_))
    exact Entails.of_eq (around_all fun c q => bigSep (Finset.range 6) fun k => (dutyTok ER (recvCell c q k) 0 false : sProp 𝕄))

/-- What stays with device `c`: its positions and the tokens it pays with. -/
def linear (c : Dev nD) : sProp 𝕄 := iprop((bigSep Finset.univ fun k : Fin 66 => atPos ER (kcell (c, k)) 0 ∅ 0) ∗ payToks c)
/-- What the global step makes of the devices' shares. -/
def G' (c : Dev nD) : sProp 𝕄 := iprop(∃ K, records m ρ K ∗ linear c)

theorem regroup :
    (bigSep Finset.univ fun c : Dev nD => iprop((bigSep Finset.univ fun k => iprop(∃ κ : ℕ, cellInv ER (ringRd m ρ) κ (kcell (c, k))))
          ∗ (bigSep Finset.univ fun k : Fin 66 => atPos ER (kcell (c, k)) 0 ∅ 0) ∗ (bigSep Finset.univ fun k : Fin 66 => reached ER (kcell (c, k)) 0) ∗ toks c) : sProp 𝕄)
      ⊢ bigSep Finset.univ (G' m ρ) := by
  rw [bigSep_sep', bigSep_sep', bigSep_sep', ← bigSep_univ_prod (fun ck : Dev nD × Fin 66 => iprop(∃ κ : ℕ, cellInv ER (ringRd m ρ) κ (kcell ck))),
    ← bigSep_univ_prod (fun ck : Dev nD × Fin 66 => (reached ER (kcell ck) 0 : sProp 𝕄))]
  iintro ⟨HI, Hat, #HR, Htok⟩
  ihave HK := (BI.bigSep_exists_pi Finset.univ (fun (ck : Dev nD × Fin 66) (κ : ℕ) => (cellInv ER (ringRd m ρ) κ (kcell ck) : sProp 𝕄))) $$ HI
  icases HK with ⟨%K, #HI⟩
  ihave Htk := (toks_around (F := F)) $$ Htok
  ihave Hl := (Entails.of_eq (bigSep_sep' (Finset.univ : Finset (Dev nD)) (fun c => bigSep Finset.univ fun k : Fin 66 => (atPos ER (kcell (c, k)) 0 ∅ 0 : sProp 𝕄)) (fun c => payToks c)).symm) $$ [Hat Htk]
  · isplitl [Hat] <;> iassumption
  iapply (show iprop(records m ρ K ∗ bigSep Finset.univ fun c : Dev nD => (linear c : sProp 𝕄)) ⊢ bigSep Finset.univ (G' m ρ) from
    (BI.sep_mono (BI.bigSep_of_persistent (Finset.univ : Finset (Dev nD)) (records m ρ K)) (BI.Entails.refl _)).trans
      ((Entails.of_eq (bigSep_sep' (Finset.univ : Finset (Dev nD)) (fun _ => records m ρ K) (fun c => (linear c : sProp 𝕄))).symm).trans
        (BI.bigSep_mono fun c _ => show iprop(records m ρ K ∗ linear c) ⊢ G' m ρ c from by
          unfold G'; iintro H; iexists K; iexact H)))
  isplitr
  · unfold records; isplitl; · iexact HI
    iexact HR
  · iexact Hl

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((BI.bigSep_mono fun c _ => core_alloc m ρ c).trans (bigSep_fupd _ _)).trans (BI.fupd_mono (regroup m ρ))

/-! ## The launch credit -/

theorem bar_eq_iff {a b : Dev nD} : barCell a = barCell b ↔ a = b :=
  ⟨fun h => congrArg (fun g : GSem nD τ sig => g.1.1) h, fun h => h ▸ rfl⟩
theorem recv_eq {a b : Dev nD} {q q' : Fin 4} {k k' : ℕ} (hk : k < 6) (hk' : k' < 6) (h : recvCell a q k = recvCell b q' k') : a = b ∧ q = q' ∧ k = k' := by
  have h1 : a = b := congrArg (fun g : GSem nD τ sig => g.1.1) h
  have h2 : (dq q k 1).val = (dq q' k' 1).val := congrArg Fin.val (SemLoc.dma.inj (congrArg Prod.snd h))
  have h3 := q.isLt
  have h4 := q'.isLt
  simp only [dq, Fin.val_one] at h2
  exact ⟨h1, Fin.ext (by omega), by omega⟩
theorem recv_ne_bar {a b : Dev nD} {q : Fin 4} {k : ℕ} : barCell a ≠ recvCell b q k := fun h => by cases congrArg Prod.snd h

theorem owedR_bar (d c : Dev nD) : owedR d (fun _ => 0) (barCell c) () = 0 := by
  unfold owedR
  rw [Finset.sum_apply, Finsupp.finsetSum_apply]
  refine Finset.sum_eq_zero fun q _ => ?_
  rw [Finset.sum_apply, Finsupp.finsetSum_apply]
  exact Finset.sum_eq_zero fun k _ => by rw [tallyAt_ne_cell recv_ne_bar, Finsupp.zero_apply]

theorem owed_bar (d c : Dev nD) : O₀ d (barCell c) () = (if d = prv c then 1 else 0) + (if d = nxt c then 1 else 0) := by
  unfold O₀
  rw [Pi.add_apply, Finsupp.add_apply, Pi.add_apply, Finsupp.add_apply, owedR_bar, Nat.zero_add, tallyAt_apply, tallyAt_apply]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

theorem owed_recv (d c : Dev nD) (q : Fin 4) (k : ℕ) (hk : k < 6) : O₀ d (recvCell c q k) () = if d = src q c then NS else 0 := by
  unfold O₀ owedR
  rw [Pi.add_apply, Finsupp.add_apply, Pi.add_apply, Finsupp.add_apply, tallyAt_ne_cell recv_ne_bar.symm, tallyAt_ne_cell recv_ne_bar.symm, Finsupp.zero_apply,
    Nat.add_zero, Nat.add_zero, Finset.sum_apply, Finsupp.finsetSum_apply, Finset.sum_eq_single q _ (fun h => absurd (Finset.mem_univ q) h),
    Finset.sum_apply, Finsupp.finsetSum_apply, Finset.sum_eq_single k _ (fun h => absurd (Finset.mem_Ico.mpr ⟨Nat.zero_le _, hk⟩) h), tallyAt_apply]
  · by_cases h : d = src q c
    · subst h; rw [dst_src, if_pos ⟨rfl, rfl⟩, if_pos rfl]
    · rw [if_neg (fun ⟨h1, _⟩ => h (by rw [← src_dst q d]; exact congrArg (src q) (recv_eq hk hk h1).1.symm)), if_neg h]
  · intro k' hk' hne
    rw [tallyAt_apply]
    exact if_neg fun h => hne (recv_eq hk (Finset.mem_Ico.mp hk').2 h.1).2.2.symm
  · intro q' _ hne
    rw [Finset.sum_apply, Finsupp.finsetSum_apply]
    refine Finset.sum_eq_zero fun k' hk' => ?_
    rw [tallyAt_apply]
    exact if_neg fun h => hne (recv_eq hk (Finset.mem_Ico.mp hk').2 h.1).2.1.symm

/-- The credit of a cell at launch. -/
def lcred (g : GSem nD τ sig) : CellTallies nD τ sig Unit := tallyOn g (launchCredit (Pipeline.owing O₀) 0 g)

theorem launch_bar (c : Dev nD) : lcred (barCell c) = tallyAt (barCell c) () 2 := by
  unfold lcred tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_recv (c : Dev nD) (q : Fin 4) (k : ℕ) (hk : k < 6) : lcred (recvCell c q k) = tallyAt (recvCell c q k) () NS := by
  unfold lcred tallyAt; refine congrArg _ (Finsupp.ext fun u => ?_); cases u
  rw [Pipeline.launchCredit_owing, Finsupp.single_eq_same, Finset.sum_congr rfl fun d _ => owed_recv d c q k hk, Finset.sum_ite_eq' Finset.univ (src q c) fun _ => NS,
    if_pos (Finset.mem_univ _)]

theorem creds (c : Dev nD) :
    (Pipeline.launchCred O₀ c : sProp 𝕄)
      ⊢ iprop(cred (tallyAt (barCell c) () 2) ∗ bigSep Finset.univ fun q : Fin 4 => bigSep (Finset.range 6) fun k => cred (tallyAt (recvCell c q k) () NS)) := by
  have h : (Pipeline.launchCred O₀ c : sProp 𝕄) ⊢ bigSep Finset.univ fun i : Fin 66 => cred (lcred (kcell (c, i))) := by
    unfold Pipeline.launchCred
    refine (BI.bigSep_subset (Finset.subset_univ ((Finset.univ : Finset (Fin 66)).map ⟨csem, csem_injective⟩))).trans ?_
    rw [bigSep_map]
    exact BI.Entails.refl _
  refine h.trans ?_
  rw [cells_gather c (fun g => (cred (lcred g) : sProp 𝕄)), launch_bar]
  iintro ⟨H1, -, -, H2⟩
  isplitl [H1]; · iexact H1
  iapply (show (bigSep Finset.univ fun q : Fin 4 => bigSep (Finset.range 6) fun k => iprop(cred (lcred (sendCell c q k)) ∗ cred (lcred (recvCell c q k))) : sProp 𝕄)
    ⊢ bigSep Finset.univ fun q : Fin 4 => bigSep (Finset.range 6) fun k => cred (tallyAt (recvCell c q k) () NS) from
      BI.bigSep_mono fun q _ => BI.bigSep_mono fun k hk => show iprop(cred (lcred (sendCell c q k)) ∗ cred (lcred (recvCell c q k))) ⊢ (cred (tallyAt (recvCell c q k) () NS) : sProp 𝕄) from by
        rw [launch_recv c q k (Finset.mem_range.mp hk)]
        iintro ⟨-, H⟩; iexact H)
  iexact H2

/-! ## What the body starts from and leaves -/

theorem start_of (K : Dev nD × Fin 66 → ℕ) (c : Dev nD) :
    iprop(records m ρ K ∗ linear c ∗ levAts L lv ∗ cred (tallyAt (barCell c) () 2) ∗ (bigSep Finset.univ fun q : Fin 4 => bigSep (Finset.range 6) fun k => cred (tallyAt (recvCell c q k) () NS)))
      ⊢ start m ρ K c := by
  unfold linear payToks start
  rw [cells_gather c (fun g => (atPos ER g 0 ∅ 0 : sProp 𝕄))]
  iintro ⟨HR, ⟨⟨P1, P2, P3, P4⟩, T1, T2, T3, T4, T5, T6⟩, Hlev, C1, C2⟩
  isplitl [HR]; · iexact HR
  isplitl [Hlev]; · iexact Hlev
  isplitl [T1 T2 P1 C1]
  · isplitl [T1]; · iexact T1
    isplitl [T2]; · iexact T2
    isplitl [P1] <;> iassumption
  isplitl [T3 P2]
  · isplitl [T3] <;> iassumption
  isplitl [T4 P3]
  · iapply (show iprop((bigSep Finset.univ fun q : Fin 4 => bigSep Finset.univ fun j : Fin 4 => dutyTok ER (outCell c q j) 0 false)
        ∗ bigSep Finset.univ fun q : Fin 4 => bigSep Finset.univ fun j : Fin 4 => atPos ER (outCell c q j) 0 ∅ 0)
        ⊢ (bigSep Finset.univ fun q : Fin 4 => bigSep Finset.univ fun j : Fin 4 => iprop(dutyTok ER (outCell c q j) 0 false ∗ atPos ER (outCell c q j) 0 ∅ 0) : sProp 𝕄) from by
      simp only [bigSep_sep']; exact BI.Entails.refl _)
    isplitl [T4] <;> iassumption
  iapply (show iprop((bigSep Finset.univ fun q : Fin 4 => bigSep (Finset.range 6) fun k => dutyTok ER (sendCell c q k) 0 false)
        ∗ (bigSep Finset.univ fun q : Fin 4 => bigSep (Finset.range 6) fun k => dutyTok ER (recvCell (dst q c) q k) 0 false)
        ∗ (bigSep Finset.univ fun q : Fin 4 => bigSep (Finset.range 6) fun k => iprop(atPos ER (sendCell c q k) 0 ∅ 0 ∗ atPos ER (recvCell c q k) 0 ∅ 0))
        ∗ bigSep Finset.univ fun q : Fin 4 => bigSep (Finset.range 6) fun k => cred (tallyAt (recvCell c q k) () NS))
        ⊢ (bigSep Finset.univ fun q : Fin 4 => bigSep (Finset.range 6) (RsT (F := F) c q) : sProp 𝕄) from by
      rw [← bigSep_sep', ← bigSep_sep', ← bigSep_sep']
      refine BI.bigSep_mono fun q _ => show _ ⊢ (bigSep (Finset.range 6) (RsT (F := F) c q) : sProp 𝕄) from ?_
      rw [← bigSep_sep', ← bigSep_sep', ← bigSep_sep']
      refine BI.bigSep_mono fun k _ => show _ ⊢ (RsT (F := F) c q k : sProp 𝕄) from ?_
      unfold RsT
      iintro ⟨H1, H2, ⟨H3, H4⟩, H5⟩
      isplitl [H1]; · iexact H1
      isplitl [H2]; · iexact H2
      isplitl [H3]; · iexact H3
      isplitl [H4] <;> iassumption)
  isplitl [T5]; · iexact T5
  isplitl [T6]; · iexact T6
  isplitl [P4] <;> iassumption

/-- What device `c` enters the call with. -/
def entry (c : Dev nD) : sProp 𝕄 :=
  iprop((∃ K, start m ρ K c) ∗ (((c : Thread nD τ).loc main_arg1) ↦{fullShare} m ((c : Thread nD τ).loc main_arg1))
    ∗ (((c : Thread nD τ).loc main_v1) ↦{fullShare} m ((c : Thread nD τ).loc main_v1)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(entry m ρ c ∗ emp) := by
  have hrest : (Pipeline.unscopedRestP Pipeline.Prefetch.none cfg0.spec c (fun b => m ((c : Thread nD τ).loc b)) : sProp 𝕄)
      = iprop((((c : Thread nD τ).loc main_arg1) ↦{fullShare} m ((c : Thread nD τ).loc main_arg1))
        ∗ (((c : Thread nD τ).loc main_v1) ↦{fullShare} m ((c : Thread nD τ).loc main_v1))) :=
    Pipeline.unscopedRestP_eq_of_list cfg0.spec c Pipeline.Prefetch.none _ [main_arg1, main_v1] (by decide) (by decide)
  rw [hrest]
  unfold G' entry
  iintro ⟨⟨Hw, Hv⟩, Hlev, Hcr, -, ⟨%K, HR, Hl⟩⟩
  ihave Hc := (creds (F := F) c) $$ Hcr
  icases Hc with ⟨C1, C2⟩
  imodintro
  isplitl
  · isplitr [Hw Hv]
    · iexists K
      iapply (start_of m ρ K c)
      isplitl [HR]; · iexact HR
      isplitl [Hl]; · iexact Hl
      isplitl [Hlev]; · iexact Hlev
      isplitl [C1] <;> iassumption
    · isplitl [Hw] <;> iassumption
  · iempintro

theorem phi0_intro (c : Dev nD) :
    iprop(entry m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ entry bufs
  iintro ⟨⟨Hs, Hw, Hv⟩, -, ⟨H0, H1, H2⟩⟩
  isplitl [Hs]; · iexact Hs
  isplitl [Hw]; · iexact Hw
  isplitl [Hv]; · iexact Hv
  isplitl [H0]; · iexact H0
  isplitl [H1] <;> iassumption

/-- What it leaves the call with. -/
def leave (c : Dev nD) : sProp 𝕄 :=
  iprop(unscopedSems0 c ∗ (((c : Thread nD τ).loc main_arg1) ↦{fullShare.left} m ((c : Thread nD τ).loc main_arg1))
    ∗ (((c : Thread nD τ).loc main_v1) ↦{fullShare} outv m ρ c))

theorem phi1_exit (c : Dev nD) :
    (dats m ρ 0 c).Φ (Fin.last cfg0.N) ⊢ iprop(leave m ρ c ∗ Pipeline.ownSems0 osem c ∗ Pipeline.scopedRest cfg0.spec c) := by
  rw [show (dats m ρ 0 c).Φ (Fin.last cfg0.N) = finish m ρ c from rfl, scopedRest0_eq]
  unfold finish leave
  rw [sems0_eq]
  iintro ⟨⟨HzB, HzO⟩, Hw, Hv, H0, H1, H2⟩
  isplitl [HzB Hw Hv]
  · isplitl [HzB]; · iexact HzB
    isplitl [Hw] <;> iassumption
  isplitl [HzO]; · iexact HzO
  isplitl [H0]; · iexact H0
  isplitl [H1] <;> iassumption

theorem O₀_pos {c : Dev nD} {g : GSem nD τ sig} {u : Unit} (h : 0 < O₀ c g u) :
    (∃ q : Fin 4, ∃ k, k < 6 ∧ g = recvCell (dst q c) q k) ∨ ∃ d : Dev nD, g = barCell d := by
  unfold O₀ at h
  rw [Pi.add_apply, Finsupp.add_apply, Pi.add_apply, Finsupp.add_apply, tallyAt_apply, tallyAt_apply] at h
  by_cases h1 : g = barCell (nxt c) ∧ u = ()
  · exact Or.inr ⟨_, h1.1⟩
  by_cases h2 : g = barCell (prv c) ∧ u = ()
  · exact Or.inr ⟨_, h2.1⟩
  rw [if_neg h1, if_neg h2, Nat.add_zero] at h
  obtain ⟨q, k, -, hk, hg⟩ := owedR_pos h
  exact Or.inl ⟨q, k, hk, hg⟩

/-- Before the body starts and after it has ended, the wait for the staged block is allowed. -/
theorem mayWait_stage (c : Dev nD) (s : DmaSem sig) (hs : s.val = 0) (O : CellTallies nD τ sig Unit) (hO : O = O₀ c ∨ O = 0) :
    (levAts L lv : sProp 𝕄) ⊢ MayWait (c : Thread nD τ) (.dma s) () O := by
  have hlv : lv ((c : Thread nD τ), .dma s) () = 0 := by dsimp only [lv]; rw [if_pos (by omega)]
  rcases hO with rfl | rfl
  · refine MayOwe.of_cut (L := L) (lev := lv) 0 (fun p hp => by rw [Finset.mem_singleton.mp hp, L_tc]; exact Finset.mem_singleton_self _)
      (fun g u hg => by rcases O₀_pos hg with ⟨q, k, hk, rfl⟩ | ⟨d, rfl⟩ <;> exact Finset.mem_singleton_self _)
      (fun p hp => by rw [Finset.mem_singleton.mp hp]; exact hlv.le)
      (fun g u hg => by
        rcases O₀_pos hg with ⟨q, k, hk, rfl⟩ | ⟨d, rfl⟩
        · rw [show u = () from rfl, lv_recv _ q k hk]; omega
        · exact Nat.one_pos)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a device's memory holds at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1) ∧ s.mem ((c : Thread nD τ).loc main_v1) = outv m ρ c

theorem leave_read (c : Dev nD) (s' : Phys nD τ sig (Elt F)) :
    iprop(leave m ρ c ∗ emp ∗ SI s') ⊢ (|={Set.univ}=> iprop(⌜QY m ρ c s'.mem⌝ ∗ SI s') : sProp 𝕄) := by
  unfold leave
  iintro ⟨⟨Hu, Hw, Hv⟩, -, HSI⟩
  ihave %hw := (show iprop(SI s' ∗ (((c : Thread nD τ).loc main_arg1) ↦{fullShare.left} m ((c : Thread nD τ).loc main_arg1)))
      ⊢ (⌜s'.mem.mem ((c : Thread nD τ).loc main_arg1) = m ((c : Thread nD τ).loc main_arg1)⌝ : sProp 𝕄) from by
    iintro ⟨HSI, Hpt⟩
    icombine HSI Hpt gives %h
    ipureintro; exact funext fun i => h i (Finset.mem_univ i)) $$ [HSI Hw]
  · isplitl [HSI] <;> iassumption
  ihave %hv := (show iprop(SI s' ∗ (((c : Thread nD τ).loc main_v1) ↦{fullShare} outv m ρ c))
      ⊢ (⌜s'.mem.mem ((c : Thread nD τ).loc main_v1) = outv m ρ c⌝ : sProp 𝕄) from by
    iintro ⟨HSI, Hpt⟩
    icombine HSI Hpt gives %h
    ipureintro; exact funext fun i => h i (Finset.mem_univ i)) $$ [HSI Hv]
  · isplitl [HSI] <;> iassumption
  imod (Pipeline.unscopedSems0_read (X := unscopedSems0 c) (c := c) fupd_intro s') $$ [Hu HSI] with ⟨%hs, HSI⟩
  · isplitl [Hu] <;> iassumption
  imodintro
  isplitr; · ipureintro; exact ⟨hs, hw, hv⟩
  iexact HSI

set_option maxRecDepth 40000 in
/-- The call on the mesh of four devices, at any float values, from any memory with every counter at zero: every weakly fair
    execution ends, with the context and `Wo` as they were, the result at its contents and every counter at zero. -/
theorem run_call : θ_run defs (onTc (τ := τ) (main (F := F))) ⟨m, fun _ => 0, ρ⟩ (fun r =>
    (∀ c : Dev nD, r.2.mem ((c : Thread nD τ).loc main_arg0) = m ((c : Thread nD τ).loc main_arg0) ∧ QY m ρ c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := entry m ρ) (Y := leave m ρ) (Z := fun _ => iprop(emp))
    (hX := start_intro m ρ) (hin := phi0_intro m ρ) (hout := phi1_exit m ρ)
    (QY := QY m ρ) (hY := leave_read m ρ)
    (hQ := fun _ h hs => ⟨fun c => ⟨((h c).1 (0 : Fin 1)).trans ((dats (F := F) m ρ 0 c).arrAt_in (0 : Fin 1) rfl _), (h c).2.2⟩,
      sem_eq_zero hs fun c => (h c).2.2.1⟩)

end Cert.AllReduce

end
-- ==== Proof.Value.lean ====
/- The result's value over the ideal floats: on every device entry `(i, j)` of the result is the sum over all
   4096 columns of the context of `ctx (i, k) * Wo (k, j)`, the same as the reference's product.

   Every strip goes once around the ring, so what it ends at is the four devices' partial products of its rows,
   added (`acc_sum`). A device's partial product sums over its own 1024 columns of the context and its own 1024
   rows of `Wo` (`part_apply`). The four sums over 1024 are the reference's sum over 4096 (`sum_blocks`). -/
module

public import proofs.«01_k».proof.Proof.Deal
public import proofs.«01_k».proof.Proof.Gen.ReferenceIdeal
public import Idealize.ShloMosaic.Lib.MatmulPlain
public import Idealize.ShloMosaic.Lib.StackMember
public import Idealize.ShloMosaic.Lib.Layout

@[expose] public section

noncomputable section

namespace Cert.AllReduce

open Cert.KernelIdeal Cert.KernelIdeal.Gen
open Idealize.ShloMosaic
open Idealize.ShloMosaic.TcCoe
open Idealize.ShloMosaic.ValueIdx
open scoped BigOperators

/-! ## Sums -/

/-- The devices met by going back around the ring are all four. -/
theorem sum_ring {M : Type*} [AddCommMonoid M] (f : Dev nD → M) (q : Fin 4) (c : Dev nD) :
    f (src q (src q (src q c))) + f (src q (src q c)) + f (src q c) + f c = ∑ d : Dev nD, f d := by
  have h : ∀ (q : Fin 4) (c : Dev nD), (Finset.univ : Finset (Dev nD)) = {src q (src q (src q c)), src q (src q c), src q c, c}
      ∧ src q (src q (src q c)) ∉ ({src q (src q c), src q c, c} : Finset (Dev nD)) ∧ src q (src q c) ∉ ({src q c, c} : Finset (Dev nD))
      ∧ src q c ∉ ({c} : Finset (Dev nD)) := by decide
  obtain ⟨h0, h1, h2, h3⟩ := h q c
  rw [h0, Finset.sum_insert h1, Finset.sum_insert h2, Finset.sum_insert h3, Finset.sum_singleton]
  simp only [add_assoc]

/-- A sum over 4096 by its four blocks of 1024. -/
theorem sum_blocks {M : Type*} [AddCommMonoid M] (f : Fin 4096 → M) :
    ∑ k : Fin 4096, f k = ∑ d : Fin 4, ∑ k : Fin 1024, f ⟨1024 * d.val + k.val, by omega⟩ := by
  rw [← Fintype.sum_prod_type', ← Equiv.sum_comp (finProdFinEquiv (m := 4) (n := 1024))]
  refine Finset.sum_congr rfl fun t _ => congrArg f (Fin.ext ?_)
  show t.2.val + 1024 * t.1.val = 1024 * t.1.val + t.2.val
  omega

variable (m : (ℓ : Loc nD τ sig) → Buf (Elt Ideal) ℓ) (ρ : Dev nD → PrngReg)

/-! ## A partial product -/

theorem off_wo (d : Dev nD) : k0_off1 d = ![1024 * d.val, 0] := by
  funext a; revert d a; decide +kernel

/-- Device `d`'s block of the context and its copy of `Wo`. -/
def ctxOf (d : Dev nD) : S2048x1024.Idx → EReal := m ((d : Thread nD τ).loc main_arg0)
def woOf (d : Dev nD) : S4096x1024.Idx → EReal := m ((d : Thread nD τ).loc main_arg1)

theorem wob_apply (d : Dev nD) (k j : Fin 1024) :
    wob m d (ix2 k j) = woOf m d (ix2 ⟨1024 * d.val + k.val, by have : d.val < 4 := d.isLt; omega⟩ j) := by
  have e : wob m d = woRows m d := by
    unfold wob k0_pay1
    dsimp only
    rw [shapeCast_self]
    rfl
  rw [e]
  refine congrArg (m ((d : Thread nD τ).loc main_arg1)) (funext fun a => Fin.ext ?_)
  have h := congrFun (off_wo d)
  match a with
  | ⟨0, _⟩ =>
    show k0_off1 d 0 + 1 * k.val = 1024 * d.val + k.val
    rw [h]; simp
  | ⟨1, _⟩ =>
    show k0_off1 d 1 + 1 * j.val = j.val
    rw [h]; simp

theorem xstg_apply (d : Dev nD) (i : S2048x1024.Idx) : xstg m ρ d i = ctxOf m d i := by
  refine congrArg (m ((d : Thread nD τ).loc main_arg0)) (funext fun a => Fin.ext ?_)
  exact win0_0.rect_emb_val_of_index_zero (0 : Fin 1) a rfl i

theorem xrow_apply (d : Dev nD) (n : Fin 16) (r : Fin 128) (k : Fin 1024) :
    xrow m ρ d n.val (ix2 r k) = ctxOf m d (ix2 ⟨128 * n.val + r.val, by omega⟩ k) := by
  refine (xstg_apply m ρ d ((rowsR n.val).emb (ix2 r k))).trans (congrArg (ctxOf m d) (funext fun a => Fin.ext ?_))
  have := n.isLt
  match a with
  | ⟨0, _⟩ =>
    show 128 * (n.val % 16) + 1 * r.val = 128 * n.val + r.val
    omega
  | ⟨1, _⟩ =>
    show 0 + 1 * k.val = k.val
    omega

/-- An entry of the partial product of device `d`. -/
theorem part_apply (d : Dev nD) (n : Fin 16) (r : Fin 128) (j : Fin 1024) :
    (part m ρ d n.val (ix2 r j) : EReal)
      = ∑ k : Fin 1024, ctxOf m d (ix2 ⟨128 * n.val + r.val, by omega⟩ k)
          * woOf m d (ix2 ⟨1024 * d.val + k.val, by have : d.val < 4 := d.isLt; omega⟩ j) := by
  have e : (part m ρ d n.val (ix2 r j) : EReal)
      = FloatOps.matmul (F := Ideal) (φ₁ := .bf16) (φ₂ := .bf16) (DotDims.plain 128 1024 1024) none (xrow m ρ d n.val) (wob m d) (constant S128x1024 .f32 0x00000000#32) (ix2 r j) := by
    unfold part k0_pay3
    rw [shapeCast_self]
    rfl
  rw [e, Ideal.matmul_plain_apply, show (constant S128x1024 .f32 0x00000000#32 : FVec Ideal S128x1024 .f32) (ix2 r j) = 0 from Ideal.ofBits_zero_f32, zero_add]
  exact Finset.sum_congr rfl fun k _ => by rw [xrow_apply, wob_apply]

/-! ## A strip's sum -/

/-- After three steps a strip has all four partial products of its rows. -/
theorem acc_sum (q : Fin 4) (c : Dev nD) (i : S128x1024.Idx) :
    (acc m ρ q 3 c i : EReal) = ∑ d : Dev nD, (part m ρ d (4 * chunkAt q 2 c + q.val) i : EReal) := by
  have h : ∀ (q : Fin 4) (c : Dev nD), chunkAt q 1 (src q c) = chunkAt q 2 c ∧ chunkAt q 0 (src q (src q c)) = chunkAt q 2 c
      ∧ (src q (src q (src q c))).val = chunkAt q 2 c := by decide
  obtain ⟨h1, h2, h3⟩ := h q c
  rw [acc_add m ρ q 2 (by decide), ← sum_ring (fun d => (part m ρ d (4 * chunkAt q 2 c + q.val) i : EReal)) q c]
  show (acc m ρ q 2 (src q c) i : EReal) + _ = _
  rw [acc_add m ρ q 1 (by decide)]
  show ((acc m ρ q 1 (src q (src q c)) i : EReal) + _) + _ = _
  rw [acc_add m ρ q 0 (by decide)]
  show ((part m ρ (src q (src q (src q c))) (4 * (src q (src q (src q c))).val + q.val) i + part m ρ (src q (src q c)) (4 * chunkAt q 0 (src q (src q c)) + q.val) i
    + part m ρ (src q c) (4 * chunkAt q 1 (src q c) + q.val) i + part m ρ c (4 * chunkAt q 2 c + q.val) i : EReal)) = _
  rw [h1, h2, h3]

/-- The later steps pass it on. -/
theorem acc_out (q j : Fin 4) (c : Dev nD) (i : S128x1024.Idx) :
    (acc m ρ q (3 + j.val) c i : EReal) = ∑ d : Dev nD, (part m ρ d (outRow c q j) i : EReal) := by
  have h : ∀ (q : Fin 4) (c : Dev nD), 4 * chunkAt q 2 c + q.val = outRow c q 0
      ∧ ∀ j : Fin 3, outRow (src q c) q j.castSucc = outRow c q j.succ := by decide
  obtain ⟨j, hj⟩ := j
  induction j generalizing c with
  | zero => rw [show (3 + (⟨0, hj⟩ : Fin 4).val) = 3 from rfl, acc_sum, (h q c).1]; rfl
  | succ j ih =>
    have e := (h q c).2 ⟨j, by omega⟩
    rw [show 3 + (⟨j + 1, hj⟩ : Fin 4).val = (3 + j) + 1 from rfl, acc_pass m ρ q (3 + j) (by omega)]
    refine (ih (src q c) (by omega)).trans ?_
    rw [show outRow (src q c) q ⟨j, by omega⟩ = outRow c q ⟨j + 1, hj⟩ from e]

/-! ## The result -/

/-- An entry of the result on device `c`, over what the devices hold. -/
theorem outv_apply (c : Dev nD) (n : Fin 16) (r : Fin 128) (j : Fin 1024) :
    (outv m ρ c (ix2 ⟨128 * n.val + r.val, by omega⟩ j) : EReal)
      = ∑ d : Dev nD, ∑ k : Fin 1024, ctxOf m d (ix2 ⟨128 * n.val + r.val, by omega⟩ k)
          * woOf m d (ix2 ⟨1024 * d.val + k.val, by have : d.val < 4 := d.isLt; omega⟩ j) := by
  have hn := n.isLt
  have e : (ix2 ⟨128 * n.val + r.val, by omega⟩ j : S2048x1024.Idx) = (rowsR n.val).emb (ix2 r j) := by
    funext a; apply Fin.ext
    match a with
    | ⟨0, _⟩ =>
      show 128 * n.val + r.val = 128 * (n.val % 16) + 1 * r.val
      omega
    | ⟨1, _⟩ =>
      show j.val = 0 + 1 * j.val
      omega
  have hr : outRow c (outAtOf c n).1 (outAtOf c n).2 = n.val := congrArg Fin.val ((outEquiv c).apply_symm_apply n)
  rw [e, show outv m ρ c ((rowsR n.val).emb (ix2 r j)) = acc m ρ (outAtOf c n).1 (3 + (outAtOf c n).2.val) c (ix2 r j) from congrFun (outv_at m ρ c n) (ix2 r j),
    acc_out, hr]
  exact Finset.sum_congr rfl fun d _ => part_apply m ρ d n r j

/-- What the reference computes from the whole context and `Wo`. -/
def refv (x : Cert.ReferenceIdeal.S2048x4096.Idx → EReal) (w : Cert.ReferenceIdeal.S4096x1024.Idx → EReal) : Cert.ReferenceIdeal.S2048x1024.Idx → EReal :=
  truncf (F := Ideal) .bf16 (Host.dotGeneral (F := Ideal) (φ₁ := .f32) (φ₂ := .f32) Cert.ReferenceIdeal.dot_S2048x4096_S4096x1024_S2048x1024_1_0_0_1_n_n none
    (extf (F := Ideal) (φ := .bf16) .f32 x Cert.ReferenceIdeal.Gen.facts.bitsLt_bf16_f32) w) Cert.ReferenceIdeal.Gen.facts.bitsLt_bf16_f32

theorem refv_apply (x : Cert.ReferenceIdeal.S2048x4096.Idx → EReal) (w : Cert.ReferenceIdeal.S4096x1024.Idx → EReal) (i : Fin 2048) (j : Fin 1024) :
    refv x w (ix2 i j) = ∑ k : Fin 4096, x (ix2 i k) * w (ix2 k j) :=
  StackMember.dotGeneral_plain_apply (φ₁ := .f32) (φ₂ := .f32) none x w i j

/-- When every device holds its 1024 columns of the context and all of `Wo`, the result on every device is the reference's. -/
theorem outv_eq (x : Cert.ReferenceIdeal.S2048x4096.Idx → EReal) (w : Cert.ReferenceIdeal.S4096x1024.Idx → EReal)
    (hx : ∀ d : Dev nD, ctxOf m d = Layout.block ⟨2, ![2048, 1024]⟩ ⟨2, ![2048, 4096]⟩ 1 4 d x) (hw : ∀ d, woOf m d = w) (c : Dev nD) :
    (outv m ρ c : S2048x1024.Idx → EReal) = refv x w := by
  funext i
  have h0 : (i 0).val < 2048 := (i 0).isLt
  have h1 : (i 1).val < 1024 := (i 1).isLt
  have hi : i = ix2 ⟨128 * (⟨(i 0).val / 128, by omega⟩ : Fin 16).val + (⟨(i 0).val % 128, by omega⟩ : Fin 128).val, by simp only; omega⟩ ⟨(i 1).val, h1⟩ := by
    funext a; apply Fin.ext
    match a with
    | ⟨0, _⟩ =>
      show (i 0).val = 128 * ((i 0).val / 128) + (i 0).val % 128
      omega
    | ⟨1, _⟩ => rfl
  rw [hi, outv_apply, refv_apply, sum_blocks]
  refine Finset.sum_congr rfl fun d _ => Finset.sum_congr rfl fun k _ => ?_
  rw [hw, hx, Layout.block_apply]
  refine congrArg (· * _) (congrArg x (funext fun a => Fin.ext ?_))
  rw [Layout.Tiles.idx_val]
  match a with
  | ⟨0, _⟩ => rfl
  | ⟨1, _⟩ =>
    show d.val * 1024 + k.val = 1024 * d.val + k.val
    omega

end Cert.AllReduce

end
-- ==== Proof.Phases.lean ====
/- What one device of the sparse attention writes, over any floats.

   The 2048 rows are 32 tiles of 64. Tile `4 * j + p` belongs to phase `p`; the kernel takes the four phases one after
   another, joins the eight tiles of a phase, computes the phase's 512 rows of the result head by head, and stores them
   back tile by tile. `phase` is the text of one phase for any `p`, `stores` are the 32 stores, and `out_apply` reads the
   result at a row of a tile. -/
module

public import proofs.«01_k».proof.Proof.Gen.AttentionIdeal.Value
public import Idealize.ShloMosaic.Lib.WholeRead
public import Idealize.ShloMosaic.Lib.Writes
public import Idealize.ShloMosaic.Lib.VecWindow
public import Idealize.ShloMosaic.Lib.ValueIdx
public import Idealize.ShloMosaic.Lib.MatmulPlain

@[expose] public section

noncomputable section

namespace Cert.Sparse

open Cert.AttentionIdeal Cert.AttentionIdeal.Gen Idealize.ShloMosaic Idealize.ShloMosaic.TcCoe Idealize.SL.Sem
open Idealize.ShloMosaic.ValueIdx

variable {F : FTy → Type} [FloatOps F] [Named F]

/-! ## The parts of a phase -/

/-- The row at which tile `j` of phase `p` begins. -/
abbrev row (p : Fin 4) (j : Fin 8) : Nat := (j.val * 4 + p.val) * 64

theorem row_inb (p : Fin 4) (j : Fin 8) : ∀ a, (![row p j, 0] : Fin 2 → Nat) a + S64x1024.size a ≤ S2048x1024.size a := by
  revert p j; decide
theorem row_inb3 (p : Fin 4) (j : Fin 8) : ∀ a, (![row p j, 0, 0] : Fin 3 → Nat) a + S64x8x128.size a ≤ S2048x8x128.size a := by
  revert p j; decide
theorem cut_head (h : Fin 8) : S512x1024.Slices ![0, h.val * 128] S512x128 := by revert h; decide
theorem cut_head3 (h : Fin 8) : S512x8x128.Slices ![0, h.val, 0] S512x1x128 := by revert h; decide
theorem cut_tile (j : Fin 8) : S512x1024.Slices ![j.val * 64, 0] S64x1024 := by revert j; decide

/-- Tile `j` of phase `p` of the inputs `x`. -/
def xTile (arg0 : Memref sig .tc .vmem S2048x1024 .f32) (harg0 : arg0.IsWhole) (x0 : Vec F S2048x1024 .f32) (p : Fin 4) (j : Fin 8) : FVec F S64x1024 .f32 :=
  shapeCast S64x1024 (View.readAt (Elt F) arg0.view (Rect.unit (s := S2048x1024) ![row p j, 0] S64x1024.size (row_inb p j)).toLoadRect (harg0.unread x0)) shapeCasts_S64x1024_S64x1024

/-- Tile `j` of phase `p` of the keys or the values. -/
def kTile (arg2 : Memref sig .tc .vmem S2048x8x128 .f32) (harg2 : arg2.IsWhole) (x1 : Vec F S2048x8x128 .f32) (p : Fin 4) (j : Fin 8) : FVec F S64x8x128 .f32 :=
  shapeCast S64x8x128 (View.readAt (Elt F) arg2.view (Rect.unit (s := S2048x8x128) ![row p j, 0, 0] S64x8x128.size (row_inb3 p j)).toLoadRect (harg2.unread x1)) shapeCasts_S64x8x128_S64x8x128

/-- The eight tiles of a phase joined. -/
def xRows (f : Fin 8 → FVec F S64x1024 .f32) : FVec F S512x1024 .bf16 :=
  truncf .bf16 (concatenate S512x1024 0 [⟨S64x1024, f 0⟩, ⟨S64x1024, f 1⟩, ⟨S64x1024, f 2⟩, ⟨S64x1024, f 3⟩, ⟨S64x1024, f 4⟩, ⟨S64x1024, f 5⟩, ⟨S64x1024, f 6⟩, ⟨S64x1024, f 7⟩]
    concatenates_S64x1024_S64x1024_S64x1024_S64x1024_S64x1024_S64x1024_S64x1024_S64x1024_S512x1024_d0) bitsLt_bf16_f32

def kRows (f : Fin 8 → FVec F S64x8x128 .f32) : FVec F S512x8x128 .bf16 :=
  truncf .bf16 (concatenate S512x8x128 0 [⟨S64x8x128, f 0⟩, ⟨S64x8x128, f 1⟩, ⟨S64x8x128, f 2⟩, ⟨S64x8x128, f 3⟩, ⟨S64x8x128, f 4⟩, ⟨S64x8x128, f 5⟩, ⟨S64x8x128, f 6⟩, ⟨S64x8x128, f 7⟩]
    concatenates_S64x8x128_S64x8x128_S64x8x128_S64x8x128_S64x8x128_S64x8x128_S64x8x128_S64x8x128_S512x8x128_d0) bitsLt_bf16_f32

/-- The scaled query weights. -/
def scaled (w : Vec F S1024x1024 .f32) : FVec F S1024x1024 .bf16 :=
  truncf .bf16 (mulf w (broadcast S1024x1024 (Named.named κ "inv_sqrt_d" 0x3DB504F3#32))) bitsLt_bf16_f32

/-- The queries of a phase. -/
def queries (xp : FVec F S512x1024 .bf16) (wq : FVec F S1024x1024 .bf16) : FVec F S512x1024 .bf16 :=
  truncf .bf16 (matmul dot_S512x1024_S1024x1024_S512x1024_1_0_0_1_n_n none xp wq (constant S512x1024 .f32 0x00000000#32)) bitsLt_bf16_f32

/-- The exponentials of a head's scores. -/
def expo (qp : FVec F S512x1024 .bf16) (kp : FVec F S512x8x128 .bf16) (h : Fin 8) : FVec F S512x512 .f32 :=
  exp (matmul dot_S512x128_S512x128_S512x512_1_1_0_0_n_n none
    (extractStridedSlice S512x128 ![0, h.val * 128] qp (cut_head h))
    (shapeCast S512x128 (extractStridedSlice S512x1x128 ![0, h.val, 0] kp (cut_head3 h)) shapeCasts_S512x1x128_S512x128)
    (constant S512x512 .f32 0x00000000#32))

/-- One head of a phase: the weighted values over the sum of the weights. -/
def head (qp : FVec F S512x1024 .bf16) (kp vp : FVec F S512x8x128 .bf16) (h : Fin 8) : FVec F S512x128 .bf16 :=
  truncf .bf16 (divf
    (matmul dot_S512x512_S512x128_S512x128_1_0_0_1_n_n none (truncf .bf16 (expo qp kp h) bitsLt_bf16_f32)
      (shapeCast S512x128 (extractStridedSlice S512x1x128 ![0, h.val, 0] vp (cut_head3 h)) shapeCasts_S512x1x128_S512x128)
      (constant S512x128 .f32 0x00000000#32))
    (broadcastTo S512x128
      (shapeCast S512x1 (multiReduction .add [1] S512 (expo qp kp h) 0x00000000#32 reduces_S512x512_S512 (.inl rfl) rfl) shapeCasts_S512_S512x1)
      broadcasts_S512x1_S512x128)) bitsLt_bf16_f32

/-- The rows of a phase: its heads side by side. -/
def heads (qp : FVec F S512x1024 .bf16) (kp vp : FVec F S512x8x128 .bf16) : FVec F S512x1024 .bf16 :=
  concatenate S512x1024 1 [⟨S512x128, head qp kp vp 0⟩, ⟨S512x128, head qp kp vp 1⟩, ⟨S512x128, head qp kp vp 2⟩, ⟨S512x128, head qp kp vp 3⟩, ⟨S512x128, head qp kp vp 4⟩, ⟨S512x128, head qp kp vp 5⟩, ⟨S512x128, head qp kp vp 6⟩, ⟨S512x128, head qp kp vp 7⟩]
    concatenates_S512x128_S512x128_S512x128_S512x128_S512x128_S512x128_S512x128_S512x128_S512x1024_d1

section
variable (c : Dev nD) (arg0 : Memref sig .tc .vmem S2048x1024 .f32) (harg0 : arg0.IsWhole) (arg2 : Memref sig .tc .vmem S2048x8x128 .f32) (harg2 : arg2.IsWhole)
  (arg3 : Memref sig .tc .vmem S2048x8x128 .f32) (harg3 : arg3.IsWhole) (arg4 : Memref sig .tc .vmem S2048x1024 .bf16) (harg4 : arg4.IsWhole)
  (arg5 : Memref sig .tc .vmem S1024x1024 .f32) (harg5 : arg5.IsWhole)
  (x0 : Vec F S2048x1024 .f32) (x1 : Vec F S2048x8x128 .f32) (x2 : Vec F S2048x8x128 .f32) (fh0 : HbBuf0 (F := F) c hbM0_0)

/-- The queries' weights as the kernel loads them. -/
abbrev weights : Vec F S1024x1024 .f32 := kernelRun0_A.sl.v60 c arg5 fh0

/-- Phase `p`: 512 rows of the result. -/
def phase (p : Fin 4) : FVec F S512x1024 .bf16 :=
  heads (queries (xRows (xTile arg0 harg0 x0 p)) (scaled (weights c arg5 fh0))) (kRows (kTile arg2 harg2 x1 p)) (kRows (kTile arg3 harg3 x2 p))

/-- The store of tile `j` of phase `p`. -/
def store (p : Fin 4) (j : Fin 8) : View.Piece (Elt F) S2048x1024 .bf16 :=
  ⟨Rect.unit (s := S2048x1024) ![row p j, 0] ![64, 1024] (row_inb p j), extractStridedSlice S64x1024 ![j.val * 64, 0] (phase c arg0 harg0 arg2 harg2 arg3 harg3 arg5 x0 x1 x2 fh0 p) (cut_tile j)⟩

/-- The stores, the last first. -/
def stores : List (View.Piece (Elt F) S2048x1024 .bf16) :=
  ([3, 2, 1, 0] : List (Fin 4)).flatMap fun p => ([7, 6, 5, 4, 3, 2, 1, 0] : List (Fin 8)).map fun j =>
    store c arg0 harg0 arg2 harg2 arg3 harg3 arg5 x0 x1 x2 fh0 p j

/-- The run's stores are these. -/
theorem stores_eq : (kernelRun0_A c arg0 harg0 arg2 harg2 arg3 harg3 arg4 harg4 arg5 harg5 x0 x1 x2 fh0).1 = stores c arg0 harg0 arg2 harg2 arg3 harg3 arg5 x0 x1 x2 fh0 := rfl

end

/-! ## Read over the extended reals -/

/-- The row of the whole array at place `t` of phase `p`. -/
def place (p : Fin 4) (t : Fin 512) : Fin 2048 := ⟨(t.val / 64 * 4 + p.val) * 64 + t.val % 64, by omega⟩

theorem xRows_apply (f : Fin 8 → FVec Ideal S64x1024 .f32) (t : Fin 512) (k : Fin 1024) :
    (xRows f (ix2 t k) : EReal) = f ⟨t.val / 64, by omega⟩ (ix2 ⟨t.val % 64, by omega⟩ k) :=
  concatenate_ofFn_apply (0 : Fin S512x1024.rank) f concatenates_S64x1024_S64x1024_S64x1024_S64x1024_S64x1024_S64x1024_S64x1024_S64x1024_S512x1024_d0
    rfl 64 rfl (ix2 t k) ⟨t.val / 64, by omega⟩ rfl (ix2 ⟨t.val % 64, by omega⟩ k) rfl fun b hb => by
      match b with
      | ⟨0, _⟩ => exact absurd rfl hb
      | ⟨1, _⟩ => rfl

theorem kRows_apply (f : Fin 8 → FVec Ideal S64x8x128 .f32) (t : Fin 512) (h : Fin 8) (d : Fin 128) :
    (kRows f (ix3 t h d) : EReal) = f ⟨t.val / 64, by omega⟩ (ix3 ⟨t.val % 64, by omega⟩ h d) :=
  concatenate_ofFn_apply (0 : Fin S512x8x128.rank) f concatenates_S64x8x128_S64x8x128_S64x8x128_S64x8x128_S64x8x128_S64x8x128_S64x8x128_S64x8x128_S512x8x128_d0
    rfl 64 rfl (ix3 t h d) ⟨t.val / 64, by omega⟩ rfl (ix3 ⟨t.val % 64, by omega⟩ h d) rfl fun b hb => by
      match b with
      | ⟨0, _⟩ => exact absurd rfl hb
      | ⟨1, _⟩ => rfl
      | ⟨2, _⟩ => rfl

/-- The scale. -/
abbrev scale : EReal := Named.named (F := Ideal) κ "inv_sqrt_d" (φ := .f32) 0x3DB504F3#32

theorem queries_apply (xp : FVec Ideal S512x1024 .bf16) (w : Vec Ideal S1024x1024 .f32) (t : Fin 512) (j : Fin 1024) :
    (queries xp (scaled w) (ix2 t j) : EReal) = ∑ k : Fin 1024, (xp (ix2 t k) : EReal) * ((w (ix2 k j) : EReal) * scale) := by
  refine (Ideal.matmul_plain_apply (φ₁ := .bf16) (φ₂ := .bf16) none xp (scaled w) (constant S512x1024 .f32 0x00000000#32) t j).trans ?_
  rw [show (constant S512x1024 .f32 0x00000000#32 : FVec Ideal S512x1024 .f32) (ix2 t j) = 0 from Ideal.ofBits_zero_f32, zero_add]
  rfl

/-- One head's rows of the keys or values. -/
theorem headRows_apply (kp : FVec Ideal S512x8x128 .bf16) (h : Fin 8) (t : Fin 512) (d : Fin 128) :
    shapeCast S512x128 (extractStridedSlice S512x1x128 ![0, h.val, 0] kp (cut_head3 h)) shapeCasts_S512x1x128_S512x128 (ix2 t d) = kp (ix3 t h d) := by
  rw [shapeCast_apply _ _ (ix2 t d) (ix3 t (0 : Fin 1) d) (by
    rw [Shape.rowMajor_val_three, Shape.rowMajor_val_two]
    show (t.val * 1 + 0) * 128 + d.val = t.val * 128 + d.val
    omega)]
  refine extractStridedSlice_apply _ _ _ _ _ fun a => ?_
  match a with
  | ⟨0, _⟩ => exact (Nat.zero_add _).symm
  | ⟨1, _⟩ => rfl
  | ⟨2, _⟩ => exact (Nat.zero_add _).symm

/-- A head's column of the queries. -/
abbrev col (h : Fin 8) (d : Fin 128) : Fin 1024 := ⟨h.val * 128 + d.val, by omega⟩

theorem expo_apply (qp : FVec Ideal S512x1024 .bf16) (kp : FVec Ideal S512x8x128 .bf16) (h : Fin 8) (r t : Fin 512) :
    (expo qp kp h (ix2 r t) : EReal) = Ideal.exp (∑ d : Fin 128, (qp (ix2 r (col h d)) : EReal) * kp (ix3 t h d)) := by
  refine congrArg Ideal.exp ((Ideal.matmul_transposedRhs_apply (φ₁ := .bf16) (φ₂ := .bf16) none _ _ (constant S512x512 .f32 0x00000000#32) r t).trans ?_)
  rw [show (constant S512x512 .f32 0x00000000#32 : FVec Ideal S512x512 .f32) (ix2 r t) = 0 from Ideal.ofBits_zero_f32, zero_add]
  refine Finset.sum_congr rfl fun d _ => ?_
  rw [headRows_apply, extractStridedSlice_apply _ _ _ (ix2 r d) (ix2 r (col h d)) fun a => by
    match a with
    | ⟨0, _⟩ => exact (Nat.zero_add _).symm
    | ⟨1, _⟩ => rfl]

theorem head_apply (qp : FVec Ideal S512x1024 .bf16) (kp vp : FVec Ideal S512x8x128 .bf16) (h : Fin 8) (r : Fin 512) (d : Fin 128) :
    (head qp kp vp h (ix2 r d) : EReal)
      = Ideal.div (∑ t : Fin 512, (expo qp kp h (ix2 r t) : EReal) * vp (ix3 t h d)) (∑ t : Fin 512, (expo qp kp h (ix2 r t) : EReal)) := by
  refine congrArg₂ Ideal.div ((Ideal.matmul_plain_apply (φ₁ := .bf16) (φ₂ := .bf16) none _ _ (constant S512x128 .f32 0x00000000#32) r d).trans ?_) ?_
  · rw [show (constant S512x128 .f32 0x00000000#32 : FVec Ideal S512x128 .f32) (ix2 r d) = 0 from Ideal.ofBits_zero_f32, zero_add]
    refine Finset.sum_congr rfl fun t _ => ?_
    rw [headRows_apply]
    rfl
  · rw [broadcastTo_apply _ _ (ix2 r d) (ix2 r (0 : Fin 1)) fun a => by
      match a with
      | ⟨0, _⟩ => rfl
      | ⟨1, _⟩ => rfl]
    rw [shapeCast_apply _ _ (ix2 r (0 : Fin 1)) (ix1 r) (by
      rw [Shape.rowMajor_val_two, Shape.rowMajor_val_one]
      show r.val = r.val * 1 + 0
      omega)]
    refine (Ideal.multiReduction_add_single _ _ _ _ _ (ix1 r)).trans (Finset.sum_congr rfl fun t _ => ?_)
    refine congrArg (expo qp kp h) (funext fun a => Fin.ext ?_)
    match a with
    | ⟨0, _⟩ => rfl
    | ⟨1, _⟩ => rfl

theorem heads_apply (qp : FVec Ideal S512x1024 .bf16) (kp vp : FVec Ideal S512x8x128 .bf16) (r : Fin 512) (h : Fin 8) (d : Fin 128) :
    (heads qp kp vp (ix2 r (col h d)) : EReal) = head qp kp vp h (ix2 r d) :=
  concatenate_ofFn_apply (1 : Fin S512x1024.rank) (head qp kp vp) concatenates_S512x128_S512x128_S512x128_S512x128_S512x128_S512x128_S512x128_S512x128_S512x1024_d1
    rfl 128 rfl (ix2 r (col h d)) h (by show (h.val * 128 + d.val) / 128 = h.val; omega) (ix2 r d) (by show d.val = (h.val * 128 + d.val) % 128; omega) fun b hb => by
      match b with
      | ⟨0, _⟩ => rfl
      | ⟨1, _⟩ => exact absurd rfl hb

/-- Column `j` of device `c` in the query weights. -/
abbrev wcol (c : Dev nD) (j : Fin 1024) : Fin 4096 := ⟨1024 * c.val + j.val, by have : c.val < 4 := c.isLt; omega⟩

/-- On device `c` the query of row `i` at column `j`, and the weight of row `i'` for it under head `h`. -/
def query (c : Dev nD) (x : S2048x1024.Idx → EReal) (w : S1024x4096.Idx → EReal) (i : Fin 2048) (j : Fin 1024) : EReal :=
  ∑ k : Fin 1024, x (ix2 i k) * (w (ix2 k (wcol c j)) * scale)
def weight (c : Dev nD) (x : S2048x1024.Idx → EReal) (w : S1024x4096.Idx → EReal) (keys : S2048x8x128.Idx → EReal) (h : Fin 8) (i i' : Fin 2048) : EReal :=
  Ideal.exp (∑ d : Fin 128, query c x w i (col h d) * keys (ix3 i' h d))
/-- The result of device `c` at row `r` of phase `p`, head `h` and lane `d`. -/
def result (c : Dev nD) (x : S2048x1024.Idx → EReal) (w : S1024x4096.Idx → EReal) (keys values : S2048x8x128.Idx → EReal) (p : Fin 4) (r : Fin 512) (h : Fin 8) (d : Fin 128) : EReal :=
  Ideal.div (∑ t : Fin 512, weight c x w keys h (place p r) (place p t) * values (ix3 (place p t) h d))
    (∑ t : Fin 512, weight c x w keys h (place p r) (place p t))

section
variable (c : Dev nD) (arg0 : Memref sig .tc .vmem S2048x1024 .f32) (harg0 : arg0.IsWhole) (arg2 : Memref sig .tc .vmem S2048x8x128 .f32) (harg2 : arg2.IsWhole)
  (arg3 : Memref sig .tc .vmem S2048x8x128 .f32) (harg3 : arg3.IsWhole) (arg4 : Memref sig .tc .vmem S2048x1024 .bf16) (harg4 : arg4.IsWhole)
  (arg5 : Memref sig .tc .vmem S1024x1024 .f32) (harg5 : arg5.IsWhole)
  (x0 : Vec Ideal S2048x1024 .f32) (x1 : Vec Ideal S2048x8x128 .f32) (x2 : Vec Ideal S2048x8x128 .f32) (fh0 : HbBuf0 (F := Ideal) c hbM0_0)

theorem xTile_apply (p : Fin 4) (j : Fin 8) (r : Fin 64) (k : Fin 1024) :
    xTile arg0 harg0 x0 p j (ix2 r k) = x0 (ix2 ⟨(j.val * 4 + p.val) * 64 + r.val, by omega⟩ k) := by
  refine (congrFun (shapeCast_self (s := S64x1024) _ _) _).trans ((harg0.readAt_unread x0 _ _).trans ?_)
  refine congrArg x0 (funext fun a => Fin.ext ?_)
  match a with
  | ⟨0, _⟩ => show (j.val * 4 + p.val) * 64 + 1 * r.val = _; simp only; omega
  | ⟨1, _⟩ => show 0 + 1 * k.val = k.val; omega

theorem kTile_apply (p : Fin 4) (j : Fin 8) (r : Fin 64) (h : Fin 8) (d : Fin 128) :
    kTile arg2 harg2 x1 p j (ix3 r h d) = x1 (ix3 ⟨(j.val * 4 + p.val) * 64 + r.val, by omega⟩ h d) := by
  refine (congrFun (shapeCast_self (s := S64x8x128) _ _) _).trans ((harg2.readAt_unread x1 _ _).trans ?_)
  refine congrArg x1 (funext fun a => Fin.ext ?_)
  match a with
  | ⟨0, _⟩ => show (j.val * 4 + p.val) * 64 + 1 * r.val = _; simp only; omega
  | ⟨1, _⟩ => show 0 + 1 * h.val = h.val; omega
  | ⟨2, _⟩ => show 0 + 1 * d.val = d.val; omega

theorem off_wq (d : Dev nD) : k0_off1 d = ![0, 1024 * d.val] := by
  funext a; revert d a; decide +kernel

/-- Device `c` loads columns `1024 * c` to `1024 * c + 1023` of the query weights. -/
theorem weights_apply (k j : Fin 1024) :
    weights c arg5 fh0 (ix2 k j) = (fh0 : S1024x4096.Idx → EReal) (ix2 k ⟨1024 * c.val + j.val, by have : c.val < 4 := c.isLt; omega⟩) := by
  have e : weights c arg5 fh0 = kernelRun0_A.sl.dma0 c fh0 :=
    View.readCov_full arg5.view inb_S1024x1024_S1024x1024_0_0 _ (kernelRun0_A.sl.dma0 c fh0) []
  rw [e]
  refine congrArg (fh0 : S1024x4096.Idx → EReal) (funext fun a => Fin.ext ?_)
  have h := congrFun (off_wq c)
  match a with
  | ⟨0, _⟩ =>
    show k0_off1 c 0 + 1 * k.val = k.val
    rw [h]; simp
  | ⟨1, _⟩ =>
    show k0_off1 c 1 + 1 * j.val = 1024 * c.val + j.val
    rw [h]; simp

theorem phase_apply (p : Fin 4) (r : Fin 512) (h : Fin 8) (d : Fin 128) :
    (phase c arg0 harg0 arg2 harg2 arg3 harg3 arg5 x0 x1 x2 fh0 p (ix2 r (col h d)) : EReal)
      = result c x0 fh0 x1 x2 p r h d := by
  have hq (r : Fin 512) (j : Fin 1024) : (queries (xRows (xTile arg0 harg0 x0 p)) (scaled (weights c arg5 fh0)) (ix2 r j) : EReal) = query c x0 fh0 (place p r) j := by
    rw [queries_apply]
    refine Finset.sum_congr rfl fun k _ => ?_
    rw [xRows_apply, xTile_apply, weights_apply]
    rfl
  have hk (M : Memref sig .tc .vmem S2048x8x128 .f32) (hM : M.IsWhole) (x : Vec Ideal S2048x8x128 .f32) (t : Fin 512) (h : Fin 8) (d : Fin 128) :
      (kRows (kTile M hM x p) (ix3 t h d) : EReal) = x (ix3 (place p t) h d) := by
    rw [kRows_apply, kTile_apply]
    rfl
  have he (t : Fin 512) : (expo (queries (xRows (xTile arg0 harg0 x0 p)) (scaled (weights c arg5 fh0))) (kRows (kTile arg2 harg2 x1 p)) h (ix2 r t) : EReal)
      = weight c x0 fh0 x1 h (place p r) (place p t) := by
    rw [expo_apply]
    refine congrArg Ideal.exp (Finset.sum_congr rfl fun d _ => ?_)
    rw [hq, hk]
  unfold phase result
  rw [heads_apply, head_apply]
  simp only [he, hk]

/-- The result at a place of a phase. -/
theorem out_apply (p : Fin 4) (r : Fin 512) (j : Fin 1024) :
    (out0_A_3 c arg0 harg0 arg2 harg2 arg3 harg3 arg4 harg4 arg5 harg5 x0 x1 x2 fh0 (ix2 (place p r) j) : EReal)
      = phase c arg0 harg0 arg2 harg2 arg3 harg3 arg5 x0 x1 x2 fh0 p (ix2 r j) := by
  let G : S2048x1024.Idx → EReal := fun y =>
    phase c arg0 harg0 arg2 harg2 arg3 harg3 arg5 x0 x1 x2 fh0 ⟨(y 0).val / 64 % 4, by omega⟩
      (ix2 ⟨(y 0).val / 256 * 64 + (y 0).val % 64, by have : (y 0).val < 2048 := (y 0).isLt; omega⟩ (y 1))
  have hG (p : Fin 4) (j : Fin 8) (r : Fin 64) (k : Fin 1024) (y : S2048x1024.Idx) (h0 : (y 0).val = (j.val * 4 + p.val) * 64 + r.val) (h1 : (y 1).val = k.val) :
      G y = phase c arg0 harg0 arg2 harg2 arg3 harg3 arg5 x0 x1 x2 fh0 p (ix2 ⟨j.val * 64 + r.val, by omega⟩ k) := by
    have e1 : (⟨(y 0).val / 64 % 4, by omega⟩ : Fin 4) = p := Fin.ext (by simp only; omega)
    have e2 : (⟨(y 0).val / 256 * 64 + (y 0).val % 64, by have : (y 0).val < 2048 := (y 0).isLt; omega⟩ : Fin 512) = ⟨j.val * 64 + r.val, by omega⟩ :=
      Fin.ext (by simp only; omega)
    have e3 : (y 1 : Fin 1024) = k := Fin.ext h1
    show phase c arg0 harg0 arg2 harg2 arg3 harg3 arg5 x0 x1 x2 fh0 ⟨(y 0).val / 64 % 4, _⟩ (ix2 ⟨(y 0).val / 256 * 64 + (y 0).val % 64, _⟩ (y 1)) = _
    rw [e1, e2]
    exact congrArg (fun k => phase c arg0 harg0 arg2 harg2 arg3 harg3 arg5 x0 x1 x2 fh0 p (ix2 ⟨j.val * 64 + r.val, by omega⟩ k)) e3
  have hpc : ∀ pc ∈ (kernelRun0_A c arg0 harg0 arg2 harg2 arg3 harg3 arg4 harg4 arg5 harg5 x0 x1 x2 fh0).1, ∀ x : pc.1.shape.Idx, pc.2 x = G (pc.1.emb x) := by
    rw [stores_eq]
    intro pc hm
    obtain ⟨p, -, hm⟩ := List.mem_flatMap.1 hm
    obtain ⟨j, -, rfl⟩ := List.mem_map.1 hm
    intro x
    have hx0 : (x 0).val < 64 := (x 0).isLt
    have hx1 : (x 1).val < 1024 := (x 1).isLt
    refine Eq.trans ?_ (hG p j ⟨(x 0).val, hx0⟩ ⟨(x 1).val, hx1⟩ _ ?_ ?_).symm
    · show extractStridedSlice S64x1024 ![j.val * 64, 0] (phase c arg0 harg0 arg2 harg2 arg3 harg3 arg5 x0 x1 x2 fh0 p) (cut_tile j) x = _
      refine extractStridedSlice_apply _ _ _ _ _ fun a => ?_
      match a with
      | ⟨0, _⟩ => rfl
      | ⟨1, _⟩ => exact (Nat.zero_add _).symm
    · show (j.val * 4 + p.val) * 64 + 1 * (x 0).val = (j.val * 4 + p.val) * 64 + (x 0).val
      omega
    · show 0 + 1 * (x 1).val = (x 1).val
      omega
  refine (View.read_writes_apply_of_pieces VO0_3 VO0_3.junk G _ hpc (ix2 (place p r) j) (cover0_A_3 c arg0 harg0 arg2 harg2 arg3 harg3 arg4 harg4 arg5 harg5 x0 x1 x2 fh0 _)).trans ?_
  refine (hG p ⟨r.val / 64, by omega⟩ ⟨r.val % 64, by omega⟩ j _ rfl rfl).trans ?_
  exact congrArg (fun t => phase c arg0 harg0 arg2 harg2 arg3 harg3 arg5 x0 x1 x2 fh0 p (ix2 t j)) (Fin.ext (by simp only; omega))

end

end Cert.Sparse

end
-- ==== Proof.Array.lean ====
/- What the attention call leaves in its result, from its arguments. Its one grid point takes every window whole (`iblk0` to `iblk2`,
   `arr_eq`), so the result is what the body's stores leave (Proof/Phases.lean). -/
module

public import proofs.«01_k».proof.Proof.Phases

@[expose] public section

noncomputable section

namespace Cert.Sparse

open Cert.AttentionIdeal Cert.AttentionIdeal.Gen Idealize.ShloMosaic Idealize.ShloMosaic.TcCoe Idealize.ShloMosaic.ValueIdx Idealize.SL.Sem

variable (m : (ℓ : Loc nD τ sig) → Buf (Elt Ideal) ℓ) (c : Dev nD)

/-- A device's arguments. -/
abbrev argX : S2048x1024.Idx → EReal := m ((c : Thread nD τ).loc main_arg0)
abbrev argW : S1024x4096.Idx → EReal := m ((c : Thread nD τ).loc main_arg1)
abbrev argK : S2048x8x128.Idx → EReal := m ((c : Thread nD τ).loc main_arg2)
abbrev argV : S2048x8x128.Idx → EReal := m ((c : Thread nD τ).loc main_arg3)

/-- Each input block is its argument. -/
theorem iblk0 (t : Fin cfg0.N) : (iblk m c 0 t : S2048x1024.Idx → EReal) = argX m c := by
  funext x
  show argX m c ((win0_0.rect t).emb x) = _
  exact congrArg (argX m c) (funext fun a => Fin.ext (win0_0.rect_emb_val_of_index_zero t a rfl x))
theorem iblk1 (t : Fin cfg0.N) : (iblk m c 1 t : S2048x8x128.Idx → EReal) = argK m c := by
  funext x
  show argK m c ((win0_1.rect t).emb x) = _
  exact congrArg (argK m c) (funext fun a => Fin.ext (win0_1.rect_emb_val_of_index_zero t a rfl x))
theorem iblk2 (t : Fin cfg0.N) : (iblk m c 2 t : S2048x8x128.Idx → EReal) = argV m c := by
  funext x
  show argV m c ((win0_2.rect t).emb x) = _
  exact congrArg (argV m c) (funext fun a => Fin.ext (win0_2.rect_emb_val_of_index_zero t a rfl x))

/-- The result array. -/
abbrev arr : S2048x1024.Idx → EReal := (dats m 0 c).arrAt 3 cfg0.N

theorem arr_apply (p : Fin 4) (r : Fin 512) (h : Fin 8) (d : Fin 128) :
    arr m c (ix2 (place p r) (col h d)) = result c (argX m c) (argW m c) (argK m c) (argV m c) p r h d := by
  let t : Fin cfg0.N := ⟨0, by decide⟩
  have e := congrFun ((Value.blocks3 m c t (by decide)).trans (Value.flushed3_A m c t)) (ix2 (place p r) (col h d))
  have e' : arr m c ((win0_3.rect t).emb (ix2 (place p r) (col h d))) = out0_A_3 c (ms0_0 t) (hs0_0 t) (ms0_1 t) (hs0_1 t) (ms0_2 t) (hs0_2 t) (ms0_3 t) (hs0_3 t) scM0_0 (Memref.isWhole_whole _)
      (iblk m c 0 t) (iblk m c 1 t) (iblk m c 2 t) (V m c main_arg1) (ix2 (place p r) (col h d)) := e
  have hx : (win0_3.rect t).emb (ix2 (place p r) (col h d)) = ix2 (place p r) (col h d) :=
    funext fun a => Fin.ext (win0_3.rect_emb_val_of_index_zero t a rfl _)
  rw [hx] at e'
  refine e'.trans ((out_apply c _ _ _ _ _ _ _ _ _ _ _ _ _ _ p r (col h d)).trans ((phase_apply c _ _ _ _ _ _ _ _ _ _ _ p r h d).trans ?_))
  rw [iblk0, iblk1, iblk2]

end Cert.Sparse

end
-- ==== Proof.Mask.lean ====
/- The attention reference's mask. A row's block is its number over 64 (`block_apply`); row `i` sees row `j` when their blocks
   agree or leave the same remainder by 4, which is the latter alone (`mask_apply`), and every row sees a row: itself
   (`any_apply`). -/
module

public import proofs.«01_k».proof.Proof.Gen.AttentionRefIdeal
public import Idealize.ShloMosaic.Lib.ValueIdx
public import Idealize.ShloMosaic.Lib.Pipeline.Value

@[expose] public section

noncomputable section

namespace Cert.Dense

open Cert.AttentionRefIdeal Cert.AttentionRefIdeal.Gen Idealize.ShloMosaic Idealize.ShloMosaic.ValueIdx

/-! ## The operations -/

/-- The quotient by `q`, rounded down, of the row numbers. -/
def block : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32)))) (broadcastInDim S2048 ![] bcast_S_S2048 (constantI S_ 32 0#32))))
    (subi (Host.divsi (iotaInDim S2048 32 0) (broadcastInDim S2048 ![] bcast_S_S2048 (id (constantI S_ 32 64#32)))) (broadcastInDim S2048 ![] bcast_S_S2048 (constantI S_ 32 1#32)))
    (Host.divsi (iotaInDim S2048 32 0) (broadcastInDim S2048 ![] bcast_S_S2048 (id (constantI S_ 32 64#32))))

/-- The divisor of the remainder: 4, or 1 if that were 0. -/
def four : IVec S_ 32 :=
  select (cmpi .eq (id (constantI S_ 32 4#32)) (constantI S_ 32 0#32)) (constantI S_ 32 1#32) (id (constantI S_ 32 4#32))

/-- The remainder by 4, with the divisor's sign. -/
def stripe (s : Shape) (h : S_.BroadcastsInDim s (![] : Fin 0 → Fin s.rank)) (x : IVec s 32) : IVec s 32 :=
  select (andi (cmpi .ne (cmpi .slt (Host.remsi x (broadcastInDim s ![] h four)) (broadcastInDim s ![] h (constantI S_ 32 0#32)))
        (broadcastInDim s ![] h (cmpi .slt four (constantI S_ 32 0#32))))
      (cmpi .ne (Host.remsi x (broadcastInDim s ![] h four)) (broadcastInDim s ![] h (constantI S_ 32 0#32))))
    (addi (Host.remsi x (broadcastInDim s ![] h four)) (broadcastInDim s ![] h four))
    (Host.remsi x (broadcastInDim s ![] h four))

/-- The blocks down a column and along a row. -/
abbrev down : IVec S2048x1 32 := broadcastInDim S2048x1 ![0] bcast_S2048_S2048x1_0 block
abbrev along : IVec S1x2048 32 := broadcastInDim S1x2048 ![1] bcast_S2048_S1x2048_1 block

def mask : IVec S2048x2048 1 :=
  ori (cmpi .eq (broadcastInDim S2048x2048 ![0, 1] bcast_S2048x1_S2048x2048_0_1 down) (broadcastInDim S2048x2048 ![0, 1] bcast_S1x2048_S2048x2048_0_1 along))
    (cmpi .eq (broadcastInDim S2048x2048 ![0, 1] bcast_S1x2048_S2048x2048_0_1 (stripe S1x2048 bcast_S_S1x2048 along))
      (broadcastInDim S2048x2048 ![0, 1] bcast_S2048x1_S2048x2048_0_1 (stripe S2048x1 bcast_S_S2048x1 down)))

/-- Whether a row sees any. -/
def any : IVec S2048 1 := Host.reduce IntOp.ori mask (constantI S_ 1 0#1) reducesTo_S2048x2048_S2048_d1 h_S_

/-! ## On words -/

def signw (a : BitVec 32) : BitVec 32 := if a = 0 then 0 else if a.msb then -1 else 1
def blockw (a : BitVec 32) : BitVec 32 :=
  Scalar.select (IntOp.andi (IntOp.cmpi .ne (signw a) (signw 64#32)) (IntOp.cmpi .ne (IntOp.remsi .host a 64#32) 0#32))
    (IntOp.subi (IntOp.divsi .host a 64#32) 1#32) (IntOp.divsi .host a 64#32)
def fourw : BitVec 32 := Scalar.select (IntOp.cmpi .eq 4#32 0#32) 1#32 4#32
def stripew (a : BitVec 32) : BitVec 32 :=
  Scalar.select (IntOp.andi (IntOp.cmpi .ne (IntOp.cmpi .slt (IntOp.remsi .host a fourw) 0#32) (IntOp.cmpi .slt fourw 0#32)) (IntOp.cmpi .ne (IntOp.remsi .host a fourw) 0#32))
    (IntOp.addi (IntOp.remsi .host a fourw) fourw) (IntOp.remsi .host a fourw)

theorem blockw_ofNat : ∀ i : Fin 2048, blockw (BitVec.ofNat 32 i.val) = BitVec.ofNat 32 (i.val / 64) := by decide +kernel
theorem seen_ofNat : ∀ i j : Fin 32, IntOp.ori (IntOp.cmpi .eq (BitVec.ofNat 32 i.val) (BitVec.ofNat 32 j.val))
    (IntOp.cmpi .eq (stripew (BitVec.ofNat 32 j.val)) (stripew (BitVec.ofNat 32 i.val))) = if i.val % 4 = j.val % 4 then 1 else 0 := by decide +kernel

/-! ## At an index -/

theorem block_apply (i : Fin 2048) : block (ix1 i) = BitVec.ofNat 32 (i.val / 64) := blockw_ofNat i

theorem down_apply (i : Fin 2048) (z : Fin 1) : down (ix2 i z) = BitVec.ofNat 32 (i.val / 64) :=
  (broadcastInDim_apply _ _ _ _ (ix1 i) fun a => by match a with | ⟨0, _⟩ => rfl).trans (block_apply i)
theorem along_apply (z : Fin 1) (j : Fin 2048) : along (ix2 z j) = BitVec.ofNat 32 (j.val / 64) :=
  (broadcastInDim_apply _ _ _ _ (ix1 j) fun a => by match a with | ⟨0, _⟩ => rfl).trans (block_apply j)

theorem stripe_apply (s : Shape) (h : S_.BroadcastsInDim s (![] : Fin 0 → Fin s.rank)) (x : IVec s 32) (y : s.Idx) : stripe s h x y = stripew (x y) := rfl

/-- A column, and a row, spread over the square. -/
theorem spread_down {α : Type} (x : S2048x1.Idx → α) (i j : Fin 2048) :
    broadcastInDim S2048x2048 ![0, 1] bcast_S2048x1_S2048x2048_0_1 x (ix2 i j) = x (ix2 i (0 : Fin 1)) :=
  broadcastInDim_apply _ _ _ _ _ fun a => by match a with | ⟨0, _⟩ => rfl | ⟨1, _⟩ => rfl
theorem spread_along {α : Type} (x : S1x2048.Idx → α) (i j : Fin 2048) :
    broadcastInDim S2048x2048 ![0, 1] bcast_S1x2048_S2048x2048_0_1 x (ix2 i j) = x (ix2 (0 : Fin 1) j) :=
  broadcastInDim_apply _ _ _ _ _ fun a => by match a with | ⟨0, _⟩ => rfl | ⟨1, _⟩ => rfl

theorem mask_apply (i j : Fin 2048) : mask (ix2 i j) = if i.val / 64 % 4 = j.val / 64 % 4 then 1 else 0 := by
  show IntOp.ori (IntOp.cmpi .eq (broadcastInDim S2048x2048 ![0, 1] bcast_S2048x1_S2048x2048_0_1 down (ix2 i j)) (broadcastInDim S2048x2048 ![0, 1] bcast_S1x2048_S2048x2048_0_1 along (ix2 i j)))
    (IntOp.cmpi .eq (broadcastInDim S2048x2048 ![0, 1] bcast_S1x2048_S2048x2048_0_1 (stripe S1x2048 bcast_S_S1x2048 along) (ix2 i j))
      (broadcastInDim S2048x2048 ![0, 1] bcast_S2048x1_S2048x2048_0_1 (stripe S2048x1 bcast_S_S2048x1 down) (ix2 i j))) = _
  rw [spread_down, spread_along, spread_along, spread_down, stripe_apply, stripe_apply, down_apply, along_apply]
  exact seen_ofNat ⟨i.val / 64, by omega⟩ ⟨j.val / 64, by omega⟩

/-- An or is one once a term is. -/
theorem foldl_ori {β : Type} (g : β → BitVec 1) : ∀ (l : List β) (z : BitVec 1), (z = 1 ∨ ∃ n ∈ l, g n = 1) → l.foldl (fun r n => IntOp.ori r (g n)) z = 1
  | [], z, h => h.elim id fun ⟨_, hn, _⟩ => absurd hn List.not_mem_nil
  | b :: l, z, h => by
    refine foldl_ori g l _ ?_
    have ho : ∀ x y : BitVec 1, x = 1 ∨ y = 1 → IntOp.ori x y = 1 := by decide
    rcases h with h | ⟨n, hn, h⟩
    · exact .inl (ho _ _ (.inl h))
    · rcases List.mem_cons.1 hn with rfl | hn
      · exact .inl (ho _ _ (.inr h))
      · exact .inr ⟨n, hn, h⟩

theorem any_apply (i : Fin 2048) : any (ix1 i) = 1 := by
  refine foldl_ori (fun n => mask (S2048x2048.rowMajor.symm n)) _ _ (.inr ⟨S2048x2048.rowMajor (ix2 i i), ?_, ?_⟩)
  · refine List.mem_filter.2 ⟨List.mem_finRange _, decide_eq_true ?_⟩
    rw [Equiv.symm_apply_apply]
    funext a
    match a with
    | ⟨0, _⟩ => rfl
  · show mask (S2048x2048.rowMajor.symm (S2048x2048.rowMajor (ix2 i i))) = 1
    rw [Equiv.symm_apply_apply, mask_apply, if_pos rfl]

end Cert.Dense

end
-- ==== Proof.Dense.lean ====
/- The attention reference over the extended reals, read at an index: under head `h`, row `i`'s result is the sum over all rows
   `j` of `value (j) * share (i, j)`, the share `exp (score (i, j) - M) / ∑ exp (score (i, j') - M)` with `M` the largest
   score of the row, and the score of a row not seen minus infinity. -/
module

public import proofs.«01_k».proof.Proof.Mask
public import proofs.«01_k».proof.Proof.Gen.AttentionRefIdeal.Run
public import Idealize.ShloMosaic.Lib.MatmulPlain
public import Idealize.ShloMosaic.Lib.StackMember

@[expose] public section

noncomputable section

namespace Cert.Dense

open Cert.AttentionRefIdeal Cert.AttentionRefIdeal.Gen Idealize.ShloMosaic Idealize.ShloMosaic.TcCoe Idealize.ShloMosaic.ValueIdx
open scoped BigOperators

section
variable {F : FTy → Type} [FloatOps F]

/-! ## The operations -/

def queries (x : FVec F S2048x1024 .f32) (w : FVec F S1024x4096 .f32) : FVec F S2048x32x128 .f32 :=
  shapeCast S2048x32x128 (Host.dotGeneral dot_S2048x1024_S1024x4096_S2048x4096_1_0_0_1_n_n none x w) shapeCasts_S2048x4096_S2048x32x128

def scores (q k : FVec F S2048x32x128 .f32) : FVec F S32x2048x2048 .f32 :=
  select (broadcastInDim S32x2048x2048 ![0, 1, 2] bcast_S1x2048x2048_S32x2048x2048_0_1_2 (broadcastInDim S1x2048x2048 ![1, 2] bcast_S2048x2048_S1x2048x2048_1_2 mask))
    (Host.divf (Host.dotGeneral dot_S2048x32x128_S2048x32x128_S32x2048x2048_2_2_0_0_1_1 none q k) (broadcastInDim S32x2048x2048 ![] bcast_S_S32x2048x2048 (Host.sqrt (constant S_ .f32 0x43000000#32))))
    (broadcastInDim S32x2048x2048 ![] bcast_S_S32x2048x2048 (id (constant S_ .f32 0xFF800000#32)))

def tops (s : FVec F S32x2048x2048 .f32) : FVec F S32x2048 .f32 :=
  Host.reduce FloatOps.maximumf s (constant S_ .f32 0xFF800000#32) reducesTo_S32x2048x2048_S32x2048_d2 h_S_

def expos (s : FVec F S32x2048x2048 .f32) : FVec F S32x2048x2048 .f32 :=
  Host.exp (subf s (broadcastInDim S32x2048x2048 ![0, 1, 2] bcast_S32x2048x1_S32x2048x2048_0_1_2 (broadcastInDim S32x2048x1 ![0, 1] bcast_S32x2048_S32x2048x1_0_1 (tops s))))

def totals (e : FVec F S32x2048x2048 .f32) : FVec F S32x2048x1 .f32 :=
  select (broadcastInDim S32x2048x1 ![0, 1, 2] bcast_S1x2048x1_S32x2048x1_0_1_2 (broadcastInDim S1x2048x1 ![1] bcast_S2048_S1x2048x1_1 any))
    (broadcastInDim S32x2048x1 ![0, 1] bcast_S32x2048_S32x2048x1_0_1 (Host.reduceAdd e (constant S_ .f32 0x00000000#32) reducesTo_S32x2048x2048_S32x2048_d2 h_S_))
    (broadcastInDim S32x2048x1 ![] bcast_S_S32x2048x1 (id (constant S_ .f32 0x3F800000#32)))

def shares (e : FVec F S32x2048x2048 .f32) : FVec F S32x2048x2048 .f32 :=
  select (broadcastInDim S32x2048x2048 ![0, 1, 2] bcast_S1x2048x1_S32x2048x2048_0_1_2 (broadcastInDim S1x2048x1 ![1] bcast_S2048_S1x2048x1_1 any))
    (Host.divf e (broadcastInDim S32x2048x2048 ![0, 1, 2] bcast_S32x2048x1_S32x2048x2048_0_1_2 (totals e)))
    (broadcastInDim S32x2048x2048 ![] bcast_S_S32x2048x2048 (id (constant S_ .f32 0x00000000#32)))

def outv (x : FVec F S2048x1024 .f32) (w : FVec F S1024x4096 .f32) (k v : FVec F S2048x32x128 .f32) : FVec F S2048x4096 .bf16 :=
  truncf .bf16 (shapeCast S2048x4096 (transpose S2048x32x128 [2, 0, 1]
    (Host.dotGeneral dot_S2048x32x128_S32x2048x2048_S32x128x2048_0_2_2_1_1_0 none v (shares (expos (scores (queries x w) k))))
    transposes_S32x128x2048_S2048x32x128_2_0_1) shapeCasts_S2048x32x128_S2048x4096) bitsLt_bf16_f32

/-- The program's result is these. -/
theorem res_eq (m : (ℓ : Loc nD τ sig) → Buf (Elt F) ℓ) (c : Dev nD) :
    Value.res_main_v40 m c = outv (m ((c.tc : Thread nD τ).loc main_arg0)) (m ((c.tc : Thread nD τ).loc main_arg1)) (m ((c.tc : Thread nD τ).loc main_arg2)) (m ((c.tc : Thread nD τ).loc main_arg3)) := rfl

end

/-! ## Read over the extended reals -/

/-- The factor that a quotient by the root of 128 is. -/
abbrev scale : EReal := (((Real.sqrt 128)⁻¹ : ℝ) : EReal)

theorem div_root (x : EReal) : Ideal.div x (Ideal.sqrt (Ideal.ofBits .f32 0x43000000#32)) = x * scale := by
  have h : Ideal.ofBits .f32 0x43000000#32 = ((128 : ℝ) : EReal) := by
    simp [Ideal.ofBits, Ideal.ieee, -EReal.coe_mul]; norm_num
  rw [h, Ideal.sqrt_coe, if_neg (by norm_num), Ideal.div_coe (Real.sqrt_pos.mpr (by norm_num)).ne', one_div]

theorem neg_inf : Ideal.ofBits .f32 0xFF800000#32 = ⊥ := by simp [Ideal.ofBits, Ideal.ieee]

/-- A head's column. -/
abbrev col (h : Fin 32) (d : Fin 128) : Fin 4096 := ⟨h.val * 128 + d.val, by omega⟩

theorem queries_apply (x : FVec Ideal S2048x1024 .f32) (w : FVec Ideal S1024x4096 .f32) (i : Fin 2048) (h : Fin 32) (d : Fin 128) :
    (queries x w (ix3 i h d) : EReal) = ∑ k : Fin 1024, (x (ix2 i k) : EReal) * w (ix2 k (col h d)) := by
  refine (shapeCast_apply _ _ (ix3 i h d) (ix2 i (col h d)) ?_).trans (StackMember.dotGeneral_plain_apply (φ₁ := .f32) (φ₂ := .f32) none x w i (col h d))
  rw [Shape.rowMajor_val_three, Shape.rowMajor_val_two]
  show i.val * 4096 + (h.val * 128 + d.val) = (i.val * 32 + h.val) * 128 + d.val
  omega

theorem products_apply (q k : FVec Ideal S2048x32x128 .f32) (h : Fin 32) (i j : Fin 2048) :
    (Host.dotGeneral dot_S2048x32x128_S2048x32x128_S32x2048x2048_2_2_0_0_1_1 none q k (ix3 h i j) : EReal) = ∑ d : Fin 128, (q (ix3 i h d) : EReal) * k (ix3 j h d) := by
  let D := dot_S2048x32x128_S2048x32x128_S32x2048x2048_2_2_0_0_1_1
  show FloatOps.dotGeneral D none _ q k (ix3 h i j) = _
  rw [Ideal.dotGeneral_apply, ← Equiv.sum_comp (contrEquiv1 D 128 rfl rfl).symm]
  refine Finset.sum_congr rfl fun d _ => ?_
  have c1 := contrEquiv1_symm_val D 128 rfl rfl d
  refine congrArg₂ (· * ·) (congrArg q (funext fun ax => Fin.ext ?_)) (congrArg k (funext fun ax => Fin.ext ?_))
  · match ax with
    | ⟨0, _⟩ => rfl
    | ⟨1, _⟩ => rfl
    | ⟨2, _⟩ => exact c1
  · match ax with
    | ⟨0, _⟩ => rfl
    | ⟨1, _⟩ => rfl
    | ⟨2, _⟩ => exact c1

theorem combine_apply (v : FVec Ideal S2048x32x128 .f32) (p : FVec Ideal S32x2048x2048 .f32) (h : Fin 32) (d : Fin 128) (i : Fin 2048) :
    (Host.dotGeneral dot_S2048x32x128_S32x2048x2048_S32x128x2048_0_2_2_1_1_0 none v p (ix3 h d i) : EReal) = ∑ j : Fin 2048, (v (ix3 j h d) : EReal) * p (ix3 h i j) := by
  let D := dot_S2048x32x128_S32x2048x2048_S32x128x2048_0_2_2_1_1_0
  show FloatOps.dotGeneral D none _ v p (ix3 h d i) = _
  rw [Ideal.dotGeneral_apply, ← Equiv.sum_comp (contrEquiv1 D 2048 rfl rfl).symm]
  refine Finset.sum_congr rfl fun j _ => ?_
  have c1 := contrEquiv1_symm_val D 2048 rfl rfl j
  refine congrArg₂ (· * ·) (congrArg v (funext fun ax => Fin.ext ?_)) (congrArg p (funext fun ax => Fin.ext ?_))
  · match ax with
    | ⟨0, _⟩ => exact c1
    | ⟨1, _⟩ => rfl
    | ⟨2, _⟩ => rfl
  · match ax with
    | ⟨0, _⟩ => rfl
    | ⟨1, _⟩ => rfl
    | ⟨2, _⟩ => exact c1

/-- An array over heads and rows, and one over rows, spread over heads, rows and a last axis. -/
theorem spread_rows {α : Type} (x : S32x2048.Idx → α) (h : Fin 32) (i j : Fin 2048) :
    broadcastInDim S32x2048x2048 ![0, 1, 2] bcast_S32x2048x1_S32x2048x2048_0_1_2 (broadcastInDim S32x2048x1 ![0, 1] bcast_S32x2048_S32x2048x1_0_1 x) (ix3 h i j) = x (ix2 h i) :=
  (broadcastInDim_apply _ _ _ _ (ix3 h i (0 : Fin 1)) fun a => by match a with | ⟨0, _⟩ => rfl | ⟨1, _⟩ => rfl | ⟨2, _⟩ => rfl).trans
    (broadcastInDim_apply _ _ _ _ (ix2 h i) fun a => by match a with | ⟨0, _⟩ => rfl | ⟨1, _⟩ => rfl)

theorem spread_mask (h : Fin 32) (i j : Fin 2048) :
    broadcastInDim S32x2048x2048 ![0, 1, 2] bcast_S1x2048x2048_S32x2048x2048_0_1_2 (broadcastInDim S1x2048x2048 ![1, 2] bcast_S2048x2048_S1x2048x2048_1_2 mask) (ix3 h i j)
      = mask (ix2 i j) :=
  (broadcastInDim_apply _ _ _ _ (ix3 (0 : Fin 1) i j) fun a => by match a with | ⟨0, _⟩ => rfl | ⟨1, _⟩ => rfl | ⟨2, _⟩ => rfl).trans
    (broadcastInDim_apply _ _ _ _ (ix2 i j) fun a => by match a with | ⟨0, _⟩ => rfl | ⟨1, _⟩ => rfl)

theorem spread_any (n : Nat) (hn : S1x2048x1.BroadcastsInDim ⟨3, ![32, 2048, n]⟩ (![0, 1, 2] : Fin 3 → Fin 3)) (h : Fin 32) (i : Fin 2048) (j : Fin n) :
    broadcastInDim ⟨3, ![32, 2048, n]⟩ ![0, 1, 2] hn (broadcastInDim S1x2048x1 ![1] bcast_S2048_S1x2048x1_1 any) (ix3 h i j) = 1 :=
  ((broadcastInDim_apply _ _ _ _ (ix3 (0 : Fin 1) i (0 : Fin 1)) fun a => by match a with | ⟨0, _⟩ => rfl | ⟨1, _⟩ => rfl | ⟨2, _⟩ => rfl).trans
    (broadcastInDim_apply _ _ _ _ (ix1 i) fun a => by match a with | ⟨0, _⟩ => rfl)).trans (any_apply i)

theorem scores_apply (q k : FVec Ideal S2048x32x128 .f32) (h : Fin 32) (i j : Fin 2048) :
    (scores q k (ix3 h i j) : EReal) = if i.val / 64 % 4 = j.val / 64 % 4 then (∑ d : Fin 128, (q (ix3 i h d) : EReal) * k (ix3 j h d)) * scale else ⊥ := by
  show Scalar.select (broadcastInDim S32x2048x2048 ![0, 1, 2] bcast_S1x2048x2048_S32x2048x2048_0_1_2 (broadcastInDim S1x2048x2048 ![1, 2] bcast_S2048x2048_S1x2048x2048_1_2 mask) (ix3 h i j))
    (Ideal.div (Host.dotGeneral dot_S2048x32x128_S2048x32x128_S32x2048x2048_2_2_0_0_1_1 none q k (ix3 h i j) : EReal) (Ideal.sqrt (Ideal.ofBits .f32 0x43000000#32))) (Ideal.ofBits .f32 0xFF800000#32) = _
  rw [div_root, spread_mask, mask_apply, products_apply]
  unfold Scalar.select
  split
  · rw [if_pos rfl]
  · rw [if_neg (by decide)]
    exact neg_inf

theorem tops_apply (s : FVec Ideal S32x2048x2048 .f32) (h : Fin 32) (i : Fin 2048) :
    (tops s (ix2 h i) : EReal) = (Finset.univ : Finset (Fin 2048)).fold max ⊥ fun j => (s (ix3 h i j) : EReal) := by
  have hr : S32x2048x2048.Reduces [2] S32x2048 := by decide
  refine (congrFun (hostReduce_maximumf_eq_multiReduction s 0xFF800000#32 reducesTo_S32x2048x2048_S32x2048_d2 h_S_ hr (.inl rfl) rfl) (ix2 h i)).trans
    ((Ideal.multiReduction_maximumf_single s 0xFF800000#32 hr (.inl rfl) rfl (ix2 h i)).trans ?_)
  rw [show FloatOps.ofBits (F := Ideal) .f32 0xFF800000#32 = (⊥ : EReal) from neg_inf]
  refine congrArg (fun f => (Finset.univ : Finset (Fin 2048)).fold max (⊥ : EReal) f) (funext fun j => congrArg s (funext fun a => Fin.ext ?_))
  match a with
  | ⟨0, _⟩ => rfl
  | ⟨1, _⟩ => rfl
  | ⟨2, _⟩ => rfl

theorem expos_apply (s : FVec Ideal S32x2048x2048 .f32) (h : Fin 32) (i j : Fin 2048) :
    (expos s (ix3 h i j) : EReal) = Ideal.exp ((s (ix3 h i j) : EReal) - tops s (ix2 h i)) :=
  congrArg (fun t => Ideal.exp ((s (ix3 h i j) : EReal) - t)) (spread_rows (tops s) h i j)

theorem totals_apply (e : FVec Ideal S32x2048x2048 .f32) (h : Fin 32) (i : Fin 2048) (z : Fin 1) :
    (totals e (ix3 h i z) : EReal) = ∑ j : Fin 2048, (e (ix3 h i j) : EReal) := by
  have hr : S32x2048x2048.Reduces [2] S32x2048 := by decide
  unfold totals
  show Scalar.select _ _ _ = _
  rw [spread_any 1 bcast_S1x2048x1_S32x2048x1_0_1_2 h i z]
  refine (if_pos rfl).trans ((broadcastInDim_apply _ _ _ _ (ix2 h i) fun a => by match a with | ⟨0, _⟩ => rfl | ⟨1, _⟩ => rfl).trans
    ((Ideal.hostReduceAdd_single reducesTo_S32x2048x2048_S32x2048_d2 hr e (Ideal.ofBits .f32 0x00000000#32) (ix2 h i)).trans ?_))
  rw [Ideal.ofBits_zero_f32, zero_add]
  refine Finset.sum_congr rfl fun j _ => congrArg e (funext fun a => Fin.ext ?_)
  match a with
  | ⟨0, _⟩ => rfl
  | ⟨1, _⟩ => rfl
  | ⟨2, _⟩ => rfl

theorem select_first {α : Type} (a b : α) : Scalar.select 1 a b = a := if_pos rfl
theorem divf_apply {s : Shape} (x y : FVec Ideal s .f32) (i : s.Idx) : Host.divf x y i = Ideal.div (x i) (y i) := rfl

theorem shares_apply (e : FVec Ideal S32x2048x2048 .f32) (h : Fin 32) (i j : Fin 2048) :
    (shares e (ix3 h i j) : EReal) = Ideal.div (e (ix3 h i j)) (∑ j' : Fin 2048, (e (ix3 h i j') : EReal)) := by
  have ht : broadcastInDim S32x2048x2048 ![0, 1, 2] bcast_S32x2048x1_S32x2048x2048_0_1_2 (totals e) (ix3 h i j) = ∑ j' : Fin 2048, (e (ix3 h i j') : EReal) :=
    (broadcastInDim_apply _ _ _ _ (ix3 h i (0 : Fin 1)) fun a => by match a with | ⟨0, _⟩ => rfl | ⟨1, _⟩ => rfl | ⟨2, _⟩ => rfl).trans (totals_apply e h i 0)
  have hs : shares e (ix3 h i j) = Scalar.select
      (broadcastInDim S32x2048x2048 ![0, 1, 2] bcast_S1x2048x1_S32x2048x2048_0_1_2 (broadcastInDim S1x2048x1 ![1] bcast_S2048_S1x2048x1_1 any) (ix3 h i j))
      (Host.divf e (broadcastInDim S32x2048x2048 ![0, 1, 2] bcast_S32x2048x1_S32x2048x2048_0_1_2 (totals e)) (ix3 h i j))
      (broadcastInDim S32x2048x2048 ![] bcast_S_S32x2048x2048 (id (constant S_ .f32 0x00000000#32)) (ix3 h i j)) := rfl
  rw [hs, spread_any 2048 bcast_S1x2048x1_S32x2048x2048_0_1_2 h i j]
  rw [select_first, divf_apply, ht]

theorem outv_apply (x : FVec Ideal S2048x1024 .f32) (w : FVec Ideal S1024x4096 .f32) (k v : FVec Ideal S2048x32x128 .f32) (i : Fin 2048) (h : Fin 32) (d : Fin 128) :
    (outv x w k v (ix2 i (col h d)) : EReal) = ∑ j : Fin 2048, (v (ix3 j h d) : EReal) * shares (expos (scores (queries x w) k)) (ix3 h i j) := by
  refine (shapeCast_apply _ _ (ix2 i (col h d)) (ix3 i h d) ?_).trans ((transpose_apply _ _ _ _ (ix3 h d i) fun a => ?_).trans (combine_apply v _ h d i))
  · rw [Shape.rowMajor_val_three, Shape.rowMajor_val_two]
    show (i.val * 32 + h.val) * 128 + d.val = i.val * 4096 + (h.val * 128 + d.val)
    omega
  · match a with
    | ⟨0, _⟩ => rfl
    | ⟨1, _⟩ => rfl
    | ⟨2, _⟩ => rfl

end Cert.Dense

end
-- ==== Proof.Softmax.lean ====
/- A softmax over the rows seen, taken two ways, at real scores: weights `exp z` normalised at the end over the rows seen alone
   (the kernel), and shares `exp (z - M) / ∑ exp (z - M)` over all rows, with minus infinity for a row not seen and `M` the
   largest score (the reference). A row not seen weighs `exp (-∞) = 0`, and `exp (z - M) = exp z / exp M` for the real `M`. -/
module

public import Idealize.ShloMosaic.PureOps
public import Idealize.ShloMosaic.Lib.MatmulPlain

@[expose] public section

noncomputable section

namespace Cert.Softmax

open Idealize.ShloMosaic
open scoped BigOperators

theorem coe_sum {ι : Type*} (u : Finset ι) (f : ι → ℝ) : ∑ i ∈ u, (f i : EReal) = ((∑ i ∈ u, f i : ℝ) : EReal) := by
  classical
  induction u using Finset.induction_on with
  | empty => simp
  | insert a u ha ih => rw [Finset.sum_insert ha, Finset.sum_insert ha, ih, EReal.coe_add]

theorem exp_coe (r : ℝ) : Ideal.exp (r : EReal) = (Real.exp r : EReal) := rfl
theorem exp_bot : Ideal.exp ⊥ = 0 := rfl

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem mul_sum {ι : Type*} (c : ℝ) (hc : 0 ≤ c) (u : Finset ι) (f : ι → EReal) : (c : EReal) * ∑ i ∈ u, f i = ∑ i ∈ u, (c : EReal) * f i := by
  classical
  induction u using Finset.induction_on with
  | empty => simp
  | insert a u ha ih =>
    rw [Finset.sum_insert ha, Finset.sum_insert ha, ← ih, EReal.left_distrib_of_nonneg_of_ne_top (by exact_mod_cast hc) (EReal.coe_ne_top c)]

variable (z : Fin 2048 → ℝ) (v : Fin 2048 → EReal) (seen : Fin 2048 → Prop) [DecidablePred seen] (pl : Fin 512 → Fin 2048)

/-- The reference's scores. -/
abbrev masked (j : Fin 2048) : EReal := if seen j then (z j : EReal) else ⊥

theorem top_real (i : Fin 2048) (hi : seen i) : ∃ μ : ℝ, (Finset.univ : Finset (Fin 2048)).fold max ⊥ (masked z seen) = (μ : EReal) := by
  obtain ⟨j, -, hj⟩ := Finset.exists_mem_eq_sup (Finset.univ : Finset (Fin 2048)) ⟨i, Finset.mem_univ i⟩ (masked z seen)
  have hf : (Finset.univ : Finset (Fin 2048)).fold max ⊥ (masked z seen) = masked z seen j := hj
  have hle : masked z seen i ≤ masked z seen j := hj ▸ Finset.le_sup (f := masked z seen) (Finset.mem_univ i)
  by_cases hs : seen j
  · exact ⟨z j, by rw [hf, masked, if_pos hs]⟩
  · rw [masked, masked, if_pos hi, if_neg hs] at hle
    exact absurd (le_bot_iff.1 hle) (EReal.coe_ne_bot _)

/-- A sum over the rows seen, by their places. -/
theorem sum_seen {M : Type*} [AddCommMonoid M] (hinj : Function.Injective pl) (himg : ∀ j, seen j ↔ ∃ t, pl t = j) (f : Fin 2048 → M) :
    ∑ j : Fin 2048, (if seen j then f j else 0) = ∑ t : Fin 512, f (pl t) := by
  rw [← Finset.sum_filter]
  refine (Finset.sum_nbij pl (fun t _ => Finset.mem_filter.2 ⟨Finset.mem_univ _, (himg _).2 ⟨t, rfl⟩⟩) (hinj.injOn) (fun j hj => ?_) fun _ _ => rfl).symm
  obtain ⟨t, ht⟩ := (himg j).1 (Finset.mem_filter.1 hj).2
  exact ⟨t, Finset.mem_coe.2 (Finset.mem_univ t), ht⟩

theorem softmax_eq (hinj : Function.Injective pl) (himg : ∀ j, seen j ↔ ∃ t, pl t = j) :
    Ideal.div (∑ t : Fin 512, Ideal.exp (z (pl t) : EReal) * v (pl t)) (∑ t : Fin 512, Ideal.exp (z (pl t) : EReal))
      = ∑ j : Fin 2048, v j * Ideal.div (Ideal.exp (masked z seen j - (Finset.univ : Finset (Fin 2048)).fold max ⊥ (masked z seen)))
          (∑ j' : Fin 2048, Ideal.exp (masked z seen j' - (Finset.univ : Finset (Fin 2048)).fold max ⊥ (masked z seen))) := by
  obtain ⟨μ, hμ⟩ := top_real z seen (pl 0) ((himg _).2 ⟨0, rfl⟩)
  have he (j : Fin 2048) : Ideal.exp (masked z seen j - (μ : EReal)) = ((if seen j then Real.exp (z j - μ) else 0 : ℝ) : EReal) := by
    by_cases hs : seen j
    · rw [masked, if_pos hs, if_pos hs, ← EReal.coe_sub, exp_coe]
    · rw [masked, if_neg hs, if_neg hs, EReal.bot_sub, exp_bot, EReal.coe_zero]
  have hT : 0 < ∑ t : Fin 512, Real.exp (z (pl t)) := Finset.sum_pos (fun t _ => Real.exp_pos _) ⟨0, Finset.mem_univ _⟩
  have hS : ∑ t : Fin 512, Real.exp (z (pl t) - μ) = (∑ t : Fin 512, Real.exp (z (pl t))) / Real.exp μ := by
    rw [Finset.sum_div]; exact Finset.sum_congr rfl fun t _ => Real.exp_sub _ _
  have hpos : ∑ t : Fin 512, Real.exp (z (pl t) - μ) ≠ 0 := by
    rw [hS]; exact (div_pos hT (Real.exp_pos μ)).ne'
  rw [hμ]
  simp only [he, exp_coe, coe_sum]
  rw [sum_seen seen pl hinj himg]
  simp only [div_coe _ _ hpos]
  have e (j : Fin 2048) : v j * (((if seen j then Real.exp (z j - μ) else 0) / ∑ t : Fin 512, Real.exp (z (pl t) - μ) : ℝ) : EReal)
      = if seen j then v j * ((Real.exp (z j - μ) / ∑ t : Fin 512, Real.exp (z (pl t) - μ) : ℝ) : EReal) else 0 := by
    by_cases hs : seen j
    · rw [if_pos hs, if_pos hs]
    · rw [if_neg hs, if_neg hs, zero_div, EReal.coe_zero, mul_zero]
  simp only [e]
  rw [sum_seen seen pl hinj himg]
  unfold Ideal.div
  rw [if_neg (by exact_mod_cast hT.ne'), ← EReal.coe_inv, mul_comm, mul_sum _ (inv_nonneg.2 hT.le), hS]
  refine Finset.sum_congr rfl fun t _ => ?_
  rw [Real.exp_sub, div_div_div_cancel_right₀ (Real.exp_pos μ).ne', div_eq_inv_mul, EReal.coe_mul, mul_comm (v (pl t)), mul_assoc]

/-- The two calls' scores: the scale on the query weights, and on the score. -/
theorem score_eq (x : Fin 1024 → ℝ) (w : Fin 1024 → Fin 128 → ℝ) (s : ℝ) (k : Fin 128 → ℝ) :
    ∑ d : Fin 128, (∑ i : Fin 1024, (x i : EReal) * ((w i d : EReal) * (s : EReal))) * (k d : EReal) = (((∑ d : Fin 128, (∑ i : Fin 1024, x i * w i d) * k d) * s : ℝ) : EReal) := by
  simp only [← EReal.coe_mul, coe_sum]
  refine congrArg _ ?_
  rw [Finset.sum_mul]
  refine Finset.sum_congr rfl fun d _ => ?_
  rw [Finset.sum_mul, Finset.sum_mul, Finset.sum_mul]
  exact Finset.sum_congr rfl fun i _ => by ring

theorem score_eq' (x : Fin 1024 → ℝ) (w : Fin 1024 → Fin 128 → ℝ) (s : ℝ) (k : Fin 128 → ℝ) :
    (∑ d : Fin 128, (∑ i : Fin 1024, (x i : EReal) * (w i d : EReal)) * (k d : EReal)) * (s : EReal) = (((∑ d : Fin 128, (∑ i : Fin 1024, x i * w i d) * k d) * s : ℝ) : EReal) := by
  simp only [← EReal.coe_mul, coe_sum]

end Cert.Softmax

end
-- ==== Proof.Compare.lean ====
/- Every device's result of the attention call is its block of the reference's: its 8 heads of the 32, side by side. At finite
   `x`, query weights and keys the scores are real, and the two softmaxes agree (Proof/Softmax.lean). -/
module

public import proofs.«01_k».proof.Proof.Array
public import proofs.«01_k».proof.Proof.Dense
public import proofs.«01_k».proof.Proof.Softmax
public import Idealize.ShloMosaic.Lib.Layout

@[expose] public section

noncomputable section

namespace Cert.Sparse

open Cert.AttentionIdeal Cert.AttentionIdeal.Gen Idealize.ShloMosaic Idealize.ShloMosaic.TcCoe Idealize.ShloMosaic.ValueIdx
open scoped BigOperators

/-- A value below infinity in size is real. -/
theorem real_of_finite {s : Shape} (x : FVec Ideal s .f32) (h : (⟨0, ![]⟩ : Shape).BroadcastsInDim s (![] : Fin 0 → Fin s.rank))
    (hx : cmpf .olt (Host.absf x) (broadcastInDim s ![] h (constant (⟨0, ![]⟩ : Shape) .f32 0x7F800000#32)) = fun _ => 1#1) (i : s.Idx) : ∃ r : ℝ, (x i : EReal) = r := by
  have e : BitVec.ofBool (decide (max (x i : EReal) (-(x i : EReal)) < Ideal.ofBits .f32 0x7F800000#32)) = 1#1 := congrFun hx i
  rw [show Ideal.ofBits .f32 0x7F800000#32 = ⊤ by simp [Ideal.ofBits, Ideal.ieee]] at e
  have hlt : max (x i : EReal) (-(x i : EReal)) < ⊤ := by
    by_contra hn
    rw [decide_eq_false hn] at e
    exact absurd e (by decide)
  obtain ⟨h1, h2⟩ := max_lt_iff.1 hlt
  refine ⟨(x i : EReal).toReal, (EReal.coe_toReal h1.ne fun hb => ?_).symm⟩
  rw [hb, EReal.neg_bot] at h2
  exact lt_irrefl _ h2

/-- The kernel's named scale is the reference's factor. -/
theorem scale_eq : scale = (((Real.sqrt 128)⁻¹ : ℝ) : EReal) := IdealRules.named_const.ideal_named_scalar _ _ _ _ rfl

/-- The rows seen from a place of phase `p` are the places of phase `p`. -/
theorem seen_iff (p : Fin 4) (r : Fin 512) (j : Fin 2048) : (place p r).val / 64 % 4 = j.val / 64 % 4 ↔ ∃ t, place p t = j := by
  constructor
  · intro h
    refine ⟨⟨j.val / 256 * 64 + j.val % 64, by omega⟩, Fin.ext ?_⟩
    simp only [place] at h ⊢
    omega
  · rintro ⟨t, rfl⟩
    simp only [place]
    omega

theorem place_injective (p : Fin 4) : Function.Injective (place p) := fun t t' h => Fin.ext (by
  have := congrArg Fin.val h
  simp only [place] at this
  omega)

variable (m : (ℓ : Loc nD τ sig) → Buf (Elt Ideal) ℓ) (c : Dev nD)

/-- Head `h` of device `c` among all. -/
abbrev global (h : Fin 8) : Fin 32 := ⟨c.val * 8 + h.val, by have : c.val < 4 := c.isLt; omega⟩

theorem context_eq (x : S2048x1024.Idx → EReal) (w : S1024x4096.Idx → EReal) (k v : (⟨3, ![2048, 32, 128]⟩ : Shape).Idx → EReal)
    (hx : argX m c = x) (hw : argW m c = w) (hk : argK m c = Layout.block ⟨3, ![2048, 8, 128]⟩ ⟨3, ![2048, 32, 128]⟩ 1 4 c k)
    (hv : argV m c = Layout.block ⟨3, ![2048, 8, 128]⟩ ⟨3, ![2048, 32, 128]⟩ 1 4 c v)
    (fx : ∀ i, ∃ r : ℝ, argX m c i = r) (fw : ∀ i, ∃ r : ℝ, argW m c i = r) (fk : ∀ i, ∃ r : ℝ, argK m c i = r) :
    arr m c = Layout.block ⟨2, ![2048, 1024]⟩ ⟨2, ![2048, 4096]⟩ 1 4 c (Cert.Dense.outv (F := Ideal) x w k v : (⟨2, ![2048, 4096]⟩ : Shape).Idx → EReal) := by
  have hblock (u : (⟨3, ![2048, 32, 128]⟩ : Shape).Idx → EReal) (j : Fin 2048) (h : Fin 8) (d : Fin 128) :
      Layout.block ⟨3, ![2048, 8, 128]⟩ ⟨3, ![2048, 32, 128]⟩ 1 4 c u (by decide) (ix3 j h d) = u (ix3 j (global c h) d) := by
    rw [Layout.block_apply]
    refine congrArg u (funext fun a => Fin.ext ?_)
    rw [Layout.Tiles.idx_val]
    match a with
    | ⟨0, _⟩ => rfl
    | ⟨1, _⟩ => rfl
    | ⟨2, _⟩ => rfl
  funext y
  obtain ⟨p, r, h, d, rfl⟩ : ∃ (p : Fin 4) (r : Fin 512) (h : Fin 8) (d : Fin 128), y = ix2 (place p r) (col h d) := by
    have h0 : (y 0).val < 2048 := (y 0).isLt
    have h1 : (y 1).val < 1024 := (y 1).isLt
    refine ⟨⟨(y 0).val / 64 % 4, by omega⟩, ⟨(y 0).val / 256 * 64 + (y 0).val % 64, by omega⟩, ⟨(y 1).val / 128, by omega⟩, ⟨(y 1).val % 128, by omega⟩, ?_⟩
    funext a; apply Fin.ext
    match a with
    | ⟨0, _⟩ =>
      show (y 0).val = (((y 0).val / 256 * 64 + (y 0).val % 64) / 64 * 4 + (y 0).val / 64 % 4) * 64 + ((y 0).val / 256 * 64 + (y 0).val % 64) % 64
      omega
    | ⟨1, _⟩ =>
      show (y 1).val = (y 1).val / 128 * 128 + (y 1).val % 128
      omega
  have hcol (d : Fin 128) : wcol c (col h d) = Cert.Dense.col (global c h) d := Fin.ext (by
    show 1024 * c.val + (h.val * 128 + d.val) = (c.val * 8 + h.val) * 128 + d.val
    omega)
  choose xr hxr using fun i : Fin 1024 => fx (ix2 (place p r) i)
  choose wr hwr using fun (i : Fin 1024) (d : Fin 128) => fw (ix2 i (wcol c (col h d)))
  choose kr hkr using fun (j : Fin 2048) (d : Fin 128) => fk (ix3 j h d)
  rw [hx] at hxr
  rw [hw] at hwr
  let z (j : Fin 2048) : ℝ := (∑ d : Fin 128, (∑ i : Fin 1024, xr i * wr i d) * kr j d) * (Real.sqrt 128)⁻¹
  let seen (j : Fin 2048) : Prop := (place p r).val / 64 % 4 = j.val / 64 % 4
  have hweight (j : Fin 2048) : weight c (argX m c) (argW m c) (argK m c) h (place p r) j = Ideal.exp (z j : EReal) := by
    unfold weight query
    rw [hx, hw]
    simp only [hxr, hwr, hkr, scale_eq]
    rw [Softmax.score_eq]
  have hscore (j : Fin 2048) : (Cert.Dense.scores (F := Ideal) (Cert.Dense.queries x w) k (ix3 (global c h) (place p r) j) : EReal) = Softmax.masked z seen j := by
    rw [Cert.Dense.scores_apply]
    have hk' (d : Fin 128) : k (ix3 j (global c h) d) = kr j d := by rw [← hblock k j h d, ← hk]; exact hkr j d
    simp only [Cert.Dense.queries_apply, ← hcol, hxr, hwr, hk']
    rw [Softmax.score_eq']
  have hR : Layout.block ⟨2, ![2048, 1024]⟩ ⟨2, ![2048, 4096]⟩ 1 4 c (Cert.Dense.outv (F := Ideal) x w k v : (⟨2, ![2048, 4096]⟩ : Shape).Idx → EReal) (by decide) (ix2 (place p r) (col h d))
      = (Cert.Dense.outv (F := Ideal) x w k v (ix2 (place p r) (Cert.Dense.col (global c h) d)) : EReal) := by
    rw [Layout.block_apply]
    refine congrArg (Cert.Dense.outv (F := Ideal) x w k v : (⟨2, ![2048, 4096]⟩ : Shape).Idx → EReal) (funext fun a => Fin.ext ?_)
    rw [Layout.Tiles.idx_val]
    match a with
    | ⟨0, _⟩ => rfl
    | ⟨1, _⟩ =>
      show c.val * 1024 + (h.val * 128 + d.val) = (c.val * 8 + h.val) * 128 + d.val
      omega
  rw [arr_apply]
  refine Eq.trans ?_ hR.symm
  rw [Cert.Dense.outv_apply]
  simp only [Cert.Dense.shares_apply, Cert.Dense.expos_apply, Cert.Dense.tops_apply, hscore]
  unfold result
  simp only [hweight, hv, hblock]
  exact Softmax.softmax_eq z (fun j => v (ix3 j (global c h) d)) seen (place p) (place_injective p) (seen_iff p r)

end Cert.Sparse

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionIdeal.Value
public import proofs.«01_k».proof.Proof.Gen.AttentionRefIdeal
public import proofs.«01_k».proof.Proof.Gen.AttentionRefIdeal.Run
public import proofs.«01_k».proof.Proof.Launch
public import proofs.«01_k».proof.Proof.Value
public import proofs.«01_k».proof.Proof.Compare
public import Idealize.ShloMosaic.Adequacy
public import Idealize.ShloMosaic.Init

@[expose] public section

noncomputable section

namespace Cert.Proof

open Idealize.ShloMosaic Idealize.SL.Sem

/-- The device program over any floats: it leaves its arguments as they were and every counter at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono (fun _ h => ⟨fun c => ⟨(h.1 c).1, (h.1 c).2.2.1⟩, h.2⟩) (Cert.AllReduce.run_call m ρ)

/-- The two device programs are the same text: their bodies, -/
theorem bodies_eq {F : FTy → Type} [FloatOps F] : Cert.Kernel.defs₀ (F := F) = Cert.KernelIdeal.defs₀ (F := F) := by
  refine congrArg Defs.onTc (funext fun l => funext fun a => ?_)
  match l, a with
  | 0, (t, s) => rfl
  | ⟨n + 1, h⟩, _ => exact absurd h (Nat.not_lt.2 (Nat.le_add_left _ _))
/-- and so their calls. -/
theorem defs_eq {F : FTy → Type} [FloatOps F] : Cert.Kernel.defs (F := F) = Cert.KernelIdeal.defs (F := F) :=
  congrArg (Pipeline.defs (Cert.KernelIdeal.pcfgs (F := F))) bodies_eq

/-- The kernel over the machine's floats is the idealized program's text, run over them. -/
theorem frame_kernel : Cert.quiescent_Kernel := fun m ρ _ => by
  rw [defs_eq]
  exact frame (F := Bits) m ρ

theorem frame_ideal : Cert.quiescent_KernelIdeal := fun m ρ _ => frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with the reference's result. -/
theorem algebraic : Cert.algebraic_KernelIdeal_ReferenceIdeal := fun m ρ m' ρ' _ hin =>
  ⟨Cert.AllReduce.refv (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c =>
      ⟨(h.1 c).2.2.2.trans (Cert.AllReduce.outv_eq m ρ _ _ (fun d => (hin d).1) (fun d => (hin d).2) c), (h.1 c).1, (h.1 c).2.2.1⟩)
      (Cert.AllReduce.run_call (F := Ideal) m ρ),
    (θ_run Cert.ReferenceIdeal.defs _ _).mono (fun _ h => h 0) (Cert.ReferenceIdeal.Value.run (F := Ideal) m' ρ')⟩

theorem frame_attention : Cert.quiescent_Attention := fun m ρ _ => Cert.Attention.Gen.frame m ρ

theorem frame_attention_ideal : Cert.quiescent_AttentionIdeal := fun m ρ _ => Cert.AttentionIdeal.Gen.frame m ρ

theorem frame_attention_reference : Cert.quiescent_AttentionRefIdeal := fun m ρ _ =>
  (θ_run Cert.AttentionRefIdeal.defs _ _).mono (fun r h => ⟨fun c => (h c).2, sem_eq_zero_of_no_sems (by decide) r.2⟩)
    (Cert.AttentionRefIdeal.Value.run (F := Ideal) m ρ)

/-- The scale is named the inverse root of 128. -/
theorem preserves_attention : Cert.preserves_Attention_AttentionIdeal :=
  IdealRules.named_const.statement Cert.AttentionIdeal.κ "inv_sqrt_d" .f32 0x3DB504F3#32 (((Real.sqrt 128)⁻¹ : ℝ) : EReal) rfl

/-- The facts of the precondition, on a device's arguments and on the reference's. -/
theorem finite_facts : Cert.Pre_finite_AttentionIdeal.Facts := ⟨by decide, by decide, by decide⟩
theorem finite_reference_facts : Cert.Pre_finite_AttentionRefIdeal.Facts := ⟨by decide, by decide, by decide⟩

/-- Every device ends with its block of the reference's result. -/
theorem algebraic_attention :
    Cert.algebraic_AttentionIdeal_AttentionRefIdeal_pre_finite_AttentionIdeal (hPre_finite_AttentionIdeal := finite_facts) :=
  fun m ρ m' ρ' hpre hin =>
  ⟨Cert.AttentionRefIdeal.Value.res_main_v40 m' 0,
    (θ_run Cert.AttentionIdeal.defs _ _).mono (fun _ h c => ⟨(h c).1.trans (by
        rw [Cert.Dense.res_eq]
        exact Cert.Sparse.context_eq m c _ _ _ _ (hin c).1 (hin c).2.1 (hin c).2.2.1 (hin c).2.2.2
          (Cert.Sparse.real_of_finite _ _ (hpre c).1) (Cert.Sparse.real_of_finite _ _ (hpre c).2.1) (Cert.Sparse.real_of_finite _ _ (hpre c).2.2)), (h c).2⟩)
      (Cert.AttentionIdeal.Value.run_blocks (F := Ideal) m ρ),
    (θ_run Cert.AttentionRefIdeal.defs _ _).mono (fun _ h => h 0) (Cert.AttentionRefIdeal.Value.run (F := Ideal) m' ρ')⟩

theorem claim : Cert.Claim := ⟨Cert.Kernel.Gen.facts, Cert.KernelIdeal.Gen.facts, Cert.ReferenceIdeal.Gen.facts,
  Cert.Attention.Gen.facts, Cert.AttentionIdeal.Gen.facts, Cert.AttentionRefIdeal.Gen.facts, finite_facts, finite_reference_facts,
  frame_kernel, frame_ideal, frame_reference,
  frame_attention, frame_attention_ideal, fun m ρ _ => frame_attention_ideal m ρ trivial,
  frame_attention_reference, fun m ρ _ => frame_attention_reference m ρ trivial,
  trivial, algebraic, preserves_attention, algebraic_attention⟩

end Cert.Proof

end
